-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4096x768 : Shape := ⟨3, ![1, 4096, 768]⟩
abbrev S768x768 : Shape := ⟨2, ![768, 768]⟩
abbrev S12x1536x768 : Shape := ⟨3, ![12, 1536, 768]⟩
abbrev S_ : Shape := ⟨0, ![]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S12x1536x768 : S_.BroadcastsInDim S12x1536x768 (![] : Fin 0 → Fin S12x1536x768.rank)
  reducesTo_S12x1536x768_S_d0_1_2 : S12x1536x768.ReducesTo [0, 1, 2] S_

variable [Facts]

def fn {F : FTy → Type} [FloatOps F] (main_arg0 : FVec F S1x4096x768 .f32) (main_arg1 : FVec F S768x768 .f32) (main_arg2 : FVec F S12x1536x768 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S12x1536x768 .f32 := Host.absf main_arg2
  let main_cst_2 : FVec F S_ .f32 := constant S_ .f32 0x7F800000#32
  let main_v10 : FVec F S12x1536x768 .f32 := broadcastInDim S12x1536x768 ![] bcast_S_S12x1536x768 main_cst_2
  let main_v11 : IVec S12x1536x768 1 := cmpf .olt main_v9 main_v10
  let main_c_3 : IVec S_ 1 := constantI S_ 1 1#1
  let main_v12 : IVec S_ 1 := (fun x v => Host.reduce IntOp.andi x v reducesTo_S12x1536x768_S_d0_1_2 h_S_) main_v11 main_c_3
  let main_v13 : IVec S_ 1 := andi main_v8 main_v12
  main_v13
-- ==== Kernel.lean ====
abbrev S1x4096x768 : Shape := ⟨3, ![1, 4096, 768]⟩
abbrev S768x768 : Shape := ⟨2, ![768, 768]⟩
abbrev S12x1536x768 : Shape := ⟨3, ![12, 1536, 768]⟩
abbrev S4096x768 : Shape := ⟨2, ![4096, 768]⟩
abbrev S512x768 : Shape := ⟨2, ![512, 768]⟩
abbrev S1x1536x768 : Shape := ⟨3, ![1, 1536, 768]⟩
abbrev S2048x768 : Shape := ⟨2, ![2048, 768]⟩
abbrev S1x768x768 : Shape := ⟨3, ![1, 768, 768]⟩
abbrev S768x12 : Shape := ⟨2, ![768, 12]⟩
abbrev S12x768 : Shape := ⟨2, ![12, 768]⟩
abbrev S512x1 : Shape := ⟨2, ![512, 1]⟩
abbrev S512x12 : Shape := ⟨2, ![512, 12]⟩
abbrev S16x768 : Shape := ⟨2, ![16, 768]⟩
abbrev S32x768 : Shape := ⟨2, ![32, 768]⟩
abbrev S64x768 : Shape := ⟨2, ![64, 768]⟩
abbrev S128x768 : Shape := ⟨2, ![128, 768]⟩
abbrev S256x768 : Shape := ⟨2, ![256, 768]⟩
abbrev S1024x768 : Shape := ⟨2, ![1024, 768]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x768, .f32⟩
  | .hbm, ⟨1, _⟩ => ⟨S768x768, .f32⟩
  | .hbm, ⟨2, _⟩ => ⟨S12x1536x768, .f32⟩
  | .hbm, ⟨3, _⟩ => ⟨S4096x768, .f32⟩
  | .hbm, ⟨4, _⟩ => ⟨S768x768, .bf16⟩
  | .hbm, ⟨5, _⟩ => ⟨S4096x768, .bf16⟩
  | .hbm, ⟨6, _⟩ => ⟨S12x1536x768, .bf16⟩
  | .hbm, ⟨7, _⟩ => ⟨S4096x768, .bf16⟩
  | .hbm, ⟨8, _⟩ => ⟨S4096x768, .f32⟩
  | .hbm, ⟨9, _⟩ => ⟨S1x4096x768, .f32⟩
  | .local _ .vmem, ⟨0, _⟩ => ⟨S512x768, .f32⟩
  | .local _ .vmem, ⟨1, _⟩ => ⟨S512x768, .f32⟩
  | .local _ .vmem, ⟨2, _⟩ => ⟨S768x768, .bf16⟩
  | .local _ .vmem, ⟨3, _⟩ => ⟨S512x768, .bf16⟩
  | .local _ .vmem, ⟨4, _⟩ => ⟨S512x768, .bf16⟩
  | .local _ .vmem, ⟨5, _⟩ => ⟨S4096x768, .bf16⟩
  | .local _ .vmem, ⟨6, _⟩ => ⟨S1x1536x768, .bf16⟩
  | .local _ .vmem, ⟨7, _⟩ => ⟨S1x1536x768, .bf16⟩
  | .local _ .vmem, ⟨8, _⟩ => ⟨S4096x768, .bf16⟩
  | .local _ .vmem, ⟨9, _⟩ => ⟨S2048x768, .bf16⟩
  | .local _ .vmem, ⟨10, _⟩ => ⟨S2048x768, .bf16⟩
  | .local _ .vmem, ⟨11, _⟩ => ⟨S2048x768, .bf16⟩
  | .local _ .vmem, ⟨12, _⟩ => ⟨S2048x768, .bf16⟩
  | .local _ .vmem, ⟨13, _⟩ => ⟨S2048x768, .bf16⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_27 : BitVec 32 := 0#32
  let c8_i32 : BitVec 32 := 8#32
  let v84 : BitVec 32 := Scalar.addi c0_i32_27 c8_i32
  let c1_i32_28 : BitVec 32 := 1#32
  ⟨c0_i32_27, v84, c1_i32_28⟩
def k1_off1 (k1_t1 : Fin k1_t1_loop.trips) : Fin 2 → Nat :=
  let c0_i32_27 : BitVec 32 := 0#32
  let c1_i32_28 : BitVec 32 := 1#32
  let arg9 : BitVec 32 := Scf.iv c0_i32_27 c1_i32_28 k1_t1
  let c512_i32 : BitVec 32 := 512#32
  let v85 : BitVec 32 := Scalar.muli arg9 c512_i32
  let v86 : Index := Scalar.indexCast v85
  let c0_30 : Index := 0#32
  ![v86.toNat, 0]
def k1_cond2 (i : grid1.Coords) : BitVec 1 :=
  let arg0 : BitVec 32 := BitVec.ofNat 32 (i 0).val
  let c0_i32_20 : BitVec 32 := 0#32
  let v69 : BitVec 1 := Scalar.cmpi .eq arg0 c0_i32_20
  let v70 : BitVec 32 := Scalar.extui v69
  let c0_i32_21 : BitVec 32 := 0#32
  let v71 : BitVec 1 := Scalar.cmpi .ne v70 c0_i32_21
  v71

@[reducible] def k1_t2_loop : Scf.Loop 32 :=
  let c0_i32_27 : BitVec 32 := 0#32
  let c8_i32 : BitVec 32 := 8#32
  let v84 : BitVec 32 := Scalar.addi c0_i32_27 c8_i32
  let c1_i32_28 : BitVec 32 := 1#32
  ⟨c0_i32_27, v84, c1_i32_28⟩
def k1_off2 (k1_t2 : Fin k1_t2_loop.trips) : Fin 2 → Nat :=
  let c0_i32_27 : BitVec 32 := 0#32
  let c1_i32_28 : BitVec 32 := 1#32
  let arg9 : BitVec 32 := Scf.iv c0_i32_27 c1_i32_28 k1_t2
  let c512_i32 : BitVec 32 := 512#32
  let v85 : BitVec 32 := Scalar.muli arg9 c512_i32
  let v86 : Index := Scalar.indexCast v85
  let c0_30 : Index := 0#32
  ![v86.toNat, 0]
def k1_cond3 (i : grid1.Coords) : BitVec 1 :=
  let arg0 : BitVec 32 := BitVec.ofNat 32 (i 0).val
  let c1_i32_22 : BitVec 32 := 1#32
  let v72 : BitVec 1 := Scalar.cmpi .eq arg0 c1_i32_22
  let v73 : BitVec 32 := Scalar.extui v72
  let c0_i32_23 : BitVec 32 := 0#32
  let v74 : BitVec 1 := Scalar.cmpi .ne v73 c0_i32_23
  v74

@[reducible] def k1_t3_loop : Scf.Loop 32 :=
  let c0_i32_27 : BitVec 32 := 0#32
  let c8_i32 : BitVec 32 := 8#32
  let v84 : BitVec 32 := Scalar.addi c0_i32_27 c8_i32
  let c1_i32_28 : BitVec 32 := 1#32
  ⟨c0_i32_27, v84, c1_i32_28⟩
def k1_off3 (k1_t3 : Fin k1_t3_loop.trips) : Fin 2 → Nat :=
  let c0_i32_27 : BitVec 32 := 0#32
  let c1_i32_28 : BitVec 32 := 1#32
  let arg9 : BitVec 32 := Scf.iv c0_i32_27 c1_i32_28 k1_t3
  let c512_i32 : BitVec 32 := 512#32
  let v85 : BitVec 32 := Scalar.muli arg9 c512_i32
  let v86 : Index := Scalar.indexCast v85
  let c0_30 : Index := 0#32
  ![v86.toNat, 0]
def k1_cond4 (i : grid1.Coords) : BitVec 1 :=
  let arg0 : BitVec 32 := BitVec.ofNat 32 (i 0).val
  let c2_i32 : BitVec 32 := 2#32
  let v75 : BitVec 1 := Scalar.cmpi .eq arg0 c2_i32
  let v76 : BitVec 32 := Scalar.extui v75
  let c0_i32_24 : BitVec 32 := 0#32
  let v77 : BitVec 1 := Scalar.cmpi .ne v76 c0_i32_24
  v77

@[reducible] def k1_t4_loop : Scf.Loop 32 :=
  let c0_i32_27 : BitVec 32 := 0#32
  let c8_i32 : BitVec 32 := 8#32
  let v84 : BitVec 32 := Scalar.addi c0_i32_27 c8_i32
  let c1_i32_28 : BitVec 32 := 1#32
  ⟨c0_i32_27, v84, c1_i32_28⟩
def k1_off4 (k1_t4 : Fin k1_t4_loop.trips) : Fin 2 → Nat :=
  let c0_i32_27 : BitVec 32 := 0#32
  let c1_i32_28 : BitVec 32 := 1#32
  let arg9 : BitVec 32 := Scf.iv c0_i32_27 c1_i32_28 k1_t4
  let c512_i32 : BitVec 32 := 512#32
  let v85 : BitVec 32 := Scalar.muli arg9 c512_i32
  let v86 : Index := Scalar.indexCast v85
  let c0_30 : Index := 0#32
  ![v86.toNat, 0]
def k1_cond5 (i : grid1.Coords) : BitVec 1 :=
  let arg0 : BitVec 32 := BitVec.ofNat 32 (i 0).val
  let c3_i32 : BitVec 32 := 3#32
  let v78 : BitVec 1 := Scalar.cmpi .eq arg0 c3_i32
  let v79 : BitVec 32 := Scalar.extui v78
  let c0_i32_25 : BitVec 32 := 0#32
  let v80 : BitVec 1 := Scalar.cmpi .ne v79 c0_i32_25
  v80

@[reducible] def k1_t5_loop : Scf.Loop 32 :=
  let c0_i32_27 : BitVec 32 := 0#32
  let c8_i32 : BitVec 32 := 8#32
  let v84 : BitVec 32 := Scalar.addi c0_i32_27 c8_i32
  let c1_i32_28 : BitVec 32 := 1#32
  ⟨c0_i32_27, v84, c1_i32_28⟩
def k1_off5 (k1_t5 : Fin k1_t5_loop.trips) : Fin 2 → Nat :=
  let c0_i32_27 : BitVec 32 := 0#32
  let c1_i32_28 : BitVec 32 := 1#32
  let arg9 : BitVec 32 := Scf.iv c0_i32_27 c1_i32_28 k1_t5
  let c512_i32 : BitVec 32 := 512#32
  let v85 : BitVec 32 := Scalar.muli arg9 c512_i32
  let v86 : Index := Scalar.indexCast v85
  let c0_30 : Index := 0#32
  ![v86.toNat, 0]
def k1_cond6 (i : grid1.Coords) : BitVec 1 :=
  let arg0 : BitVec 32 := BitVec.ofNat 32 (i 0).val
  let c4_i32 : BitVec 32 := 4#32
  let v81 : BitVec 1 := Scalar.cmpi .sge arg0 c4_i32
  let v82 : BitVec 32 := Scalar.extui v81
  let c0_i32_26 : BitVec 32 := 0#32
  let v83 : BitVec 1 := Scalar.cmpi .ne v82 c0_i32_26
  v83

def k1_cond7 (i : grid1.Coords) : BitVec 1 :=
  let arg0 : BitVec 32 := BitVec.ofNat 32 (i 0).val
  let c4_i32_27 : BitVec 32 := 4#32
  let v84 : BitVec 1 := Scalar.cmpi .eq arg0 c4_i32_27
  let v85 : BitVec 32 := Scalar.extui v84
  let c0_i32_28 : BitVec 32 := 0#32
  let v86 : BitVec 1 := Scalar.cmpi .ne v85 c0_i32_28
  v86

@[reducible] def k1_t6_loop : Scf.Loop 32 :=
  let c0_i32_56 : BitVec 32 := 0#32
  let c128_i32 : BitVec 32 := 128#32
  let v133 : BitVec 32 := Scalar.addi c0_i32_56 c128_i32
  let c1_i32_57 : BitVec 32 := 1#32
  ⟨c0_i32_56, v133, c1_i32_57⟩
def k1_off6 (k1_t6 : Fin k1_t6_loop.trips) : Fin 2 → Nat :=
  let c0_i32_56 : BitVec 32 := 0#32
  let c1_i32_57 : BitVec 32 := 1#32
  let arg9 : BitVec 32 := Scf.iv c0_i32_56 c1_i32_57 k1_t6
  let c2_i32_59 : BitVec 32 := 2#32
  let v135 : BitVec 32 := Scalar.muli arg9 c2_i32_59
  let c16_i32_60 : BitVec 32 := 16#32
  let v136 : BitVec 32 := Scalar.muli v135 c16_i32_60
  let v137 : Index := Scalar.indexCast v136
  let c0_61 : Index := 0#32
  ![v137.toNat, 0]
def k1_off7 (k1_t6 : Fin k1_t6_loop.trips) : Fin 2 → Nat :=
  let c0_i32_56 : BitVec 32 := 0#32
  let c1_i32_57 : BitVec 32 := 1#32
  let arg9 : BitVec 32 := Scf.iv c0_i32_56 c1_i32_57 k1_t6
  let c16_i32 : BitVec 32 := 16#32
  let v134 : BitVec 32 := Scalar.muli arg9 c16_i32
  let v140 : Index := Scalar.indexCast v134
  let c0_62 : Index := 0#32
  ![v140.toNat, 0]
def k1_off8 (k1_t6 : Fin k1_t6_loop.trips) : Fin 2 → Nat :=
  let c0_i32_56 : BitVec 32 := 0#32
  let c1_i32_57 : BitVec 32 := 1#32
  let arg9 : BitVec 32 := Scf.iv c0_i32_56 c1_i32_57 k1_t6
  let c2_i32_59 : BitVec 32 := 2#32
  let v135 : BitVec 32 := Scalar.muli arg9 c2_i32_59
  let c16_i32_60 : BitVec 32 := 16#32
  let v136 : BitVec 32 := Scalar.muli v135 c16_i32_60
  let c16_i32_63 : BitVec 32 := 16#32
  let v144 : BitVec 32 := Scalar.addi v136 c16_i32_63
  let v145 : Index := Scalar.indexCast v144
  let c0_64 : Index := 0#32
  ![v145.toNat, 0]
def k1_cond8 (i : grid1.Coords) : BitVec 1 :=
  let arg0 : BitVec 32 := BitVec.ofNat 32 (i 0).val
  let c5_i32 : BitVec 32 := 5#32
  let v87 : BitVec 1 := Scalar.cmpi .eq arg0 c5_i32
  let v88 : BitVec 32 := Scalar.extui v87
  let c0_i32_29 : BitVec 32 := 0#32
  let v89 : BitVec 1 := Scalar.cmpi .ne v88 c0_i32_29
  v89

@[reducible] def k1_t7_loop : Scf.Loop 32 :=
  let c0_i32_56 : BitVec 32 := 0#32
  let c64_i32_57 : BitVec 32 := 64#32
  let v133 : BitVec 32 := Scalar.addi c0_i32_56 c64_i32_57
  let c1_i32_58 : BitVec 32 := 1#32
  ⟨c0_i32_56, v133, c1_i32_58⟩
def k1_off9 (k1_t7 : Fin k1_t7_loop.trips) : Fin 2 → Nat :=
  let c0_i32_56 : BitVec 32 := 0#32
  let c1_i32_58 : BitVec 32 := 1#32
  let arg9 : BitVec 32 := Scf.iv c0_i32_56 c1_i32_58 k1_t7
  let c2_i32_60 : BitVec 32 := 2#32
  let v135 : BitVec 32 := Scalar.muli arg9 c2_i32_60
  let c32_i32_61 : BitVec 32 := 32#32
  let v136 : BitVec 32 := Scalar.muli v135 c32_i32_61
  let v137 : Index := Scalar.indexCast v136
  let c0_62 : Index := 0#32
  ![v137.toNat, 0]
def k1_off10 (k1_t7 : Fin k1_t7_loop.trips) : Fin 2 → Nat :=
  let c0_i32_56 : BitVec 32 := 0#32
  let c1_i32_58 : BitVec 32 := 1#32
  let arg9 : BitVec 32 := Scf.iv c0_i32_56 c1_i32_58 k1_t7
  let c32_i32 : BitVec 32 := 32#32
  let v134 : BitVec 32 := Scalar.muli arg9 c32_i32
  let v140 : Index := Scalar.indexCast v134
  let c0_63 : Index := 0#32
  ![v140.toNat, 0]
def k1_off11 (k1_t7 : Fin k1_t7_loop.trips) : Fin 2 → Nat :=
  let c0_i32_56 : BitVec 32 := 0#32
  let c1_i32_58 : BitVec 32 := 1#32
  let arg9 : BitVec 32 := Scf.iv c0_i32_56 c1_i32_58 k1_t7
  let c2_i32_60 : BitVec 32 := 2#32
  let v135 : BitVec 32 := Scalar.muli arg9 c2_i32_60
  let c32_i32_61 : BitVec 32 := 32#32
  let v136 : BitVec 32 := Scalar.muli v135 c32_i32_61
  let c32_i32_64 : BitVec 32 := 32#32
  let v144 : BitVec 32 := Scalar.addi v136 c32_i32_64
  let v145 : Index := Scalar.indexCast v144
  let c0_65 : Index := 0#32
  ![v145.toNat, 0]
def k1_cond9 (i : grid1.Coords) : BitVec 1 :=
  let arg0 : BitVec 32 := BitVec.ofNat 32 (i 0).val
  let c6_i32 : BitVec 32 := 6#32
  let v90 : BitVec 1 := Scalar.cmpi .eq arg0 c6_i32
  let v91 : BitVec 32 := Scalar.extui v90
  let c0_i32_30 : BitVec 32 := 0#32
  let v92 : BitVec 1 := Scalar.cmpi .ne v91 c0_i32_30
  v92

@[reducible] def k1_t8_loop : Scf.Loop 32 :=
  let c0_i32_56 : BitVec 32 := 0#32
  let c32_i32 : BitVec 32 := 32#32
  let v133 : BitVec 32 := Scalar.addi c0_i32_56 c32_i32
  let c1_i32_57 : BitVec 32 := 1#32
  ⟨c0_i32_56, v133, c1_i32_57⟩
def k1_off12 (k1_t8 : Fin k1_t8_loop.trips) : Fin 2 → Nat :=
  let c0_i32_56 : BitVec 32 := 0#32
  let c1_i32_57 : BitVec 32 := 1#32
  let arg9 : BitVec 32 := Scf.iv c0_i32_56 c1_i32_57 k1_t8
  let c2_i32_60 : BitVec 32 := 2#32
  let v135 : BitVec 32 := Scalar.muli arg9 c2_i32_60
  let c64_i32_61 : BitVec 32 := 64#32
  let v136 : BitVec 32 := Scalar.muli v135 c64_i32_61
  let v137 : Index := Scalar.indexCast v136
  let c0_62 : Index := 0#32
  ![v137.toNat, 0]
def k1_off13 (k1_t8 : Fin k1_t8_loop.trips) : Fin 2 → Nat :=
  let c0_i32_56 : BitVec 32 := 0#32
  let c1_i32_57 : BitVec 32 := 1#32
  let arg9 : BitVec 32 := Scf.iv c0_i32_56 c1_i32_57 k1_t8
  let c64_i32_59 : BitVec 32 := 64#32
  let v134 : BitVec 32 := Scalar.muli arg9 c64_i32_59
  let v140 : Index := Scalar.indexCast v134
  let c0_63 : Index := 0#32
  ![v140.toNat, 0]
def k1_off14 (k1_t8 : Fin k1_t8_loop.trips) : Fin 2 → Nat :=
  let c0_i32_56 : BitVec 32 := 0#32
  let c1_i32_57 : BitVec 32 := 1#32
  let arg9 : BitVec 32 := Scf.iv c0_i32_56 c1_i32_57 k1_t8
  let c2_i32_60 : BitVec 32 := 2#32
  let v135 : BitVec 32 := Scalar.muli arg9 c2_i32_60
  let c64_i32_61 : BitVec 32 := 64#32
  let v136 : BitVec 32 := Scalar.muli v135 c64_i32_61
  let c64_i32_64 : BitVec 32 := 64#32
  let v144 : BitVec 32 := Scalar.addi v136 c64_i32_64
  let v145 : Index := Scalar.indexCast v144
  let c0_65 : Index := 0#32
  ![v145.toNat, 0]
def k1_cond10 (i : grid1.Coords) : BitVec 1 :=
  let arg0 : BitVec 32 := BitVec.ofNat 32 (i 0).val
  let c7_i32 : BitVec 32 := 7#32
  let v93 : BitVec 1 := Scalar.cmpi .eq arg0 c7_i32
  let v94 : BitVec 32 := Scalar.extui v93
  let c0_i32_31 : BitVec 32 := 0#32
  let v95 : BitVec 1 := Scalar.cmpi .ne v94 c0_i32_31
  v95

@[reducible] def k1_t9_loop : Scf.Loop 32 :=
  let c0_i32_56 : BitVec 32 := 0#32
  let c16_i32 : BitVec 32 := 16#32
  let v133 : BitVec 32 := Scalar.addi c0_i32_56 c16_i32
  let c1_i32_57 : BitVec 32 := 1#32
  ⟨c0_i32_56, v133, c1_i32_57⟩
def k1_off15 (k1_t9 : Fin k1_t9_loop.trips) : Fin 2 → Nat :=
  let c0_i32_56 : BitVec 32 := 0#32
  let c1_i32_57 : BitVec 32 := 1#32
  let arg9 : BitVec 32 := Scf.iv c0_i32_56 c1_i32_57 k1_t9
  let c2_i32_59 : BitVec 32 := 2#32
  let v135 : BitVec 32 := Scalar.muli arg9 c2_i32_59
  let c128_i32_60 : BitVec 32 := 128#32
  let v136 : BitVec 32 := Scalar.muli v135 c128_i32_60
  let v137 : Index := Scalar.indexCast v136
  let c0_61 : Index := 0#32
  ![v137.toNat, 0]
def k1_off16 (k1_t9 : Fin k1_t9_loop.trips) : Fin 2 → Nat :=
  let c0_i32_56 : BitVec 32 := 0#32
  let c1_i32_57 : BitVec 32 := 1#32
  let arg9 : BitVec 32 := Scf.iv c0_i32_56 c1_i32_57 k1_t9
  let c128_i32 : BitVec 32 := 128#32
  let v134 : BitVec 32 := Scalar.muli arg9 c128_i32
  let v140 : Index := Scalar.indexCast v134
  let c0_62 : Index := 0#32
  ![v140.toNat, 0]
def k1_off17 (k1_t9 : Fin k1_t9_loop.trips) : Fin 2 → Nat :=
  let c0_i32_56 : BitVec 32 := 0#32
  let c1_i32_57 : BitVec 32 := 1#32
  let arg9 : BitVec 32 := Scf.iv c0_i32_56 c1_i32_57 k1_t9
  let c2_i32_59 : BitVec 32 := 2#32
  let v135 : BitVec 32 := Scalar.muli arg9 c2_i32_59
  let c128_i32_60 : BitVec 32 := 128#32
  let v136 : BitVec 32 := Scalar.muli v135 c128_i32_60
  let c128_i32_63 : BitVec 32 := 128#32
  let v144 : BitVec 32 := Scalar.addi v136 c128_i32_63
  let v145 : Index := Scalar.indexCast v144
  let c0_64 : Index := 0#32
  ![v145.toNat, 0]
def k1_cond11 (i : grid1.Coords) : BitVec 1 :=
  let arg0 : BitVec 32 := BitVec.ofNat 32 (i 0).val
  let c8_i32 : BitVec 32 := 8#32
  let v96 : BitVec 1 := Scalar.cmpi .eq arg0 c8_i32
  let v97 : BitVec 32 := Scalar.extui v96
  let c0_i32_32 : BitVec 32 := 0#32
  let v98 : BitVec 1 := Scalar.cmpi .ne v97 c0_i32_32
  v98

@[reducible] def k1_t10_loop : Scf.Loop 32 :=
  let c0_i32_56 : BitVec 32 := 0#32
  let c8_i32_57 : BitVec 32 := 8#32
  let v133 : BitVec 32 := Scalar.addi c0_i32_56 c8_i32_57
  let c1_i32_58 : BitVec 32 := 1#32
  ⟨c0_i32_56, v133, c1_i32_58⟩
def k1_off18 (k1_t10 : Fin k1_t10_loop.trips) : Fin 2 → Nat :=
  let c0_i32_56 : BitVec 32 := 0#32
  let c1_i32_58 : BitVec 32 := 1#32
  let arg9 : BitVec 32 := Scf.iv c0_i32_56 c1_i32_58 k1_t10
  let c2_i32_60 : BitVec 32 := 2#32
  let v135 : BitVec 32 := Scalar.muli arg9 c2_i32_60
  let c256_i32_61 : BitVec 32 := 256#32
  let v136 : BitVec 32 := Scalar.muli v135 c256_i32_61
  let v137 : Index := Scalar.indexCast v136
  let c0_62 : Index := 0#32
  ![v137.toNat, 0]
def k1_off19 (k1_t10 : Fin k1_t10_loop.trips) : Fin 2 → Nat :=
  let c0_i32_56 : BitVec 32 := 0#32
  let c1_i32_58 : BitVec 32 := 1#32
  let arg9 : BitVec 32 := Scf.iv c0_i32_56 c1_i32_58 k1_t10
  let c256_i32 : BitVec 32 := 256#32
  let v134 : BitVec 32 := Scalar.muli arg9 c256_i32
  let v140 : Index := Scalar.indexCast v134
  let c0_63 : Index := 0#32
  ![v140.toNat, 0]
def k1_off20 (k1_t10 : Fin k1_t10_loop.trips) : Fin 2 → Nat :=
  let c0_i32_56 : BitVec 32 := 0#32
  let c1_i32_58 : BitVec 32 := 1#32
  let arg9 : BitVec 32 := Scf.iv c0_i32_56 c1_i32_58 k1_t10
  let c2_i32_60 : BitVec 32 := 2#32
  let v135 : BitVec 32 := Scalar.muli arg9 c2_i32_60
  let c256_i32_61 : BitVec 32 := 256#32
  let v136 : BitVec 32 := Scalar.muli v135 c256_i32_61
  let c256_i32_64 : BitVec 32 := 256#32
  let v144 : BitVec 32 := Scalar.addi v136 c256_i32_64
  let v145 : Index := Scalar.indexCast v144
  let c0_65 : Index := 0#32
  ![v145.toNat, 0]
def k1_cond12 (i : grid1.Coords) : BitVec 1 :=
  let arg0 : BitVec 32 := BitVec.ofNat 32 (i 0).val
  let c9_i32 : BitVec 32 := 9#32
  let v99 : BitVec 1 := Scalar.cmpi .eq arg0 c9_i32
  let v100 : BitVec 32 := Scalar.extui v99
  let c0_i32_33 : BitVec 32 := 0#32
  let v101 : BitVec 1 := Scalar.cmpi .ne v100 c0_i32_33
  v101

@[reducible] def k1_t11_loop : Scf.Loop 32 :=
  let c0_i32_56 : BitVec 32 := 0#32
  let c4_i32_57 : BitVec 32 := 4#32
  let v133 : BitVec 32 := Scalar.addi c0_i32_56 c4_i32_57
  let c1_i32_58 : BitVec 32 := 1#32
  ⟨c0_i32_56, v133, c1_i32_58⟩
def k1_off21 (k1_t11 : Fin k1_t11_loop.trips) : Fin 2 → Nat :=
  let c0_i32_56 : BitVec 32 := 0#32
  let c1_i32_58 : BitVec 32 := 1#32
  let arg9 : BitVec 32 := Scf.iv c0_i32_56 c1_i32_58 k1_t11
  let c2_i32_60 : BitVec 32 := 2#32
  let v135 : BitVec 32 := Scalar.muli arg9 c2_i32_60
  let c512_i32_61 : BitVec 32 := 512#32
  let v136 : BitVec 32 := Scalar.muli v135 c512_i32_61
  let v137 : Index := Scalar.indexCast v136
  let c0_62 : Index := 0#32
  ![v137.toNat, 0]
def k1_off22 (k1_t11 : Fin k1_t11_loop.trips) : Fin 2 → Nat :=
  let c0_i32_56 : BitVec 32 := 0#32
  let c1_i32_58 : BitVec 32 := 1#32
  let arg9 : BitVec 32 := Scf.iv c0_i32_56 c1_i32_58 k1_t11
  let c512_i32 : BitVec 32 := 512#32
  let v134 : BitVec 32 := Scalar.muli arg9 c512_i32
  let v140 : Index := Scalar.indexCast v134
  let c0_63 : Index := 0#32
  ![v140.toNat, 0]
def k1_off23 (k1_t11 : Fin k1_t11_loop.trips) : Fin 2 → Nat :=
  let c0_i32_56 : BitVec 32 := 0#32
  let c1_i32_58 : BitVec 32 := 1#32
  let arg9 : BitVec 32 := Scf.iv c0_i32_56 c1_i32_58 k1_t11
  let c2_i32_60 : BitVec 32 := 2#32
  let v135 : BitVec 32 := Scalar.muli arg9 c2_i32_60
  let c512_i32_61 : BitVec 32 := 512#32
  let v136 : BitVec 32 := Scalar.muli v135 c512_i32_61
  let c512_i32_64 : BitVec 32 := 512#32
  let v144 : BitVec 32 := Scalar.addi v136 c512_i32_64
  let v145 : Index := Scalar.indexCast v144
  let c0_65 : Index := 0#32
  ![v145.toNat, 0]
def k1_cond13 (i : grid1.Coords) : BitVec 1 :=
  let arg0 : BitVec 32 := BitVec.ofNat 32 (i 0).val
  let c10_i32 : BitVec 32 := 10#32
  let v102 : BitVec 1 := Scalar.cmpi .eq arg0 c10_i32
  let v103 : BitVec 32 := Scalar.extui v102
  let c0_i32_34 : BitVec 32 := 0#32
  let v104 : BitVec 1 := Scalar.cmpi .ne v103 c0_i32_34
  v104

@[reducible] def k1_t12_loop : Scf.Loop 32 :=
  let c0_i32_56 : BitVec 32 := 0#32
  let c2_i32_57 : BitVec 32 := 2#32
  let v133 : BitVec 32 := Scalar.addi c0_i32_56 c2_i32_57
  let c1_i32_58 : BitVec 32 := 1#32
  ⟨c0_i32_56, v133, c1_i32_58⟩
def k1_off24 (k1_t12 : Fin k1_t12_loop.trips) : Fin 2 → Nat :=
  let c0_i32_56 : BitVec 32 := 0#32
  let c1_i32_58 : BitVec 32 := 1#32
  let arg9 : BitVec 32 := Scf.iv c0_i32_56 c1_i32_58 k1_t12
  let c2_i32_60 : BitVec 32 := 2#32
  let v135 : BitVec 32 := Scalar.muli arg9 c2_i32_60
  let c1024_i32_61 : BitVec 32 := 1024#32
  let v136 : BitVec 32 := Scalar.muli v135 c1024_i32_61
  let v137 : Index := Scalar.indexCast v136
  let c0_62 : Index := 0#32
  ![v137.toNat, 0]
def k1_off25 (k1_t12 : Fin k1_t12_loop.trips) : Fin 2 → Nat :=
  let c0_i32_56 : BitVec 32 := 0#32
  let c1_i32_58 : BitVec 32 := 1#32
  let arg9 : BitVec 32 := Scf.iv c0_i32_56 c1_i32_58 k1_t12
  let c1024_i32 : BitVec 32 := 1024#32
  let v134 : BitVec 32 := Scalar.muli arg9 c1024_i32
  let v140 : Index := Scalar.indexCast v134
  let c0_63 : Index := 0#32
  ![v140.toNat, 0]
def k1_off26 (k1_t12 : Fin k1_t12_loop.trips) : Fin 2 → Nat :=
  let c0_i32_56 : BitVec 32 := 0#32
  let c1_i32_58 : BitVec 32 := 1#32
  let arg9 : BitVec 32 := Scf.iv c0_i32_56 c1_i32_58 k1_t12
  let c2_i32_60 : BitVec 32 := 2#32
  let v135 : BitVec 32 := Scalar.muli arg9 c2_i32_60
  let c1024_i32_61 : BitVec 32 := 1024#32
  let v136 : BitVec 32 := Scalar.muli v135 c1024_i32_61
  let c1024_i32_64 : BitVec 32 := 1024#32
  let v144 : BitVec 32 := Scalar.addi v136 c1024_i32_64
  let v145 : Index := Scalar.indexCast v144
  let c0_65 : Index := 0#32
  ![v145.toNat, 0]
def k1_cond14 (i : grid1.Coords) : BitVec 1 :=
  let arg0 : BitVec 32 := BitVec.ofNat 32 (i 0).val
  let c11_i32 : BitVec 32 := 11#32
  let v105 : BitVec 1 := Scalar.cmpi .eq arg0 c11_i32
  let v106 : BitVec 32 := Scalar.extui v105
  let c0_i32_35 : BitVec 32 := 0#32
  let v107 : BitVec 1 := Scalar.cmpi .ne v106 c0_i32_35
  v107

def k1_off27 : Fin 2 → Nat :=
  let c0_i32_56 : BitVec 32 := 0#32
  let c2_i32_57 : BitVec 32 := 2#32
  let v134 : BitVec 32 := Scalar.muli c0_i32_56 c2_i32_57
  let c2048_i32_58 : BitVec 32 := 2048#32
  let v135 : BitVec 32 := Scalar.muli v134 c2048_i32_58
  let v136 : Index := Scalar.indexCast v135
  let c0_59 : Index := 0#32
  ![v136.toNat, 0]
def k1_off28 : Fin 2 → Nat :=
  let c0_i32_56 : BitVec 32 := 0#32
  let c2048_i32 : BitVec 32 := 2048#32
  let v133 : BitVec 32 := Scalar.muli c0_i32_56 c2048_i32
  let v139 : Index := Scalar.indexCast v133
  let c0_60 : Index := 0#32
  ![v139.toNat, 0]
def k1_off29 : Fin 2 → Nat :=
  let c0_i32_56 : BitVec 32 := 0#32
  let c2_i32_57 : BitVec 32 := 2#32
  let v134 : BitVec 32 := Scalar.muli c0_i32_56 c2_i32_57
  let c2048_i32_58 : BitVec 32 := 2048#32
  let v135 : BitVec 32 := Scalar.muli v134 c2048_i32_58
  let c2048_i32_61 : BitVec 32 := 2048#32
  let v143 : BitVec 32 := Scalar.addi v135 c2048_i32_61
  let v144 : Index := Scalar.indexCast v143
  let c0_62 : Index := 0#32
  ![v144.toNat, 0]
@[reducible] def k1_t13_loop : Scf.Loop 32 :=
  let c0_i32_36 : BitVec 32 := 0#32
  let c4_i32_37 : BitVec 32 := 4#32
  let v108 : BitVec 32 := Scalar.addi c0_i32_36 c4_i32_37
  let c1_i32_38 : BitVec 32 := 1#32
  ⟨c0_i32_36, v108, c1_i32_38⟩
def k1_off30 (k1_t13 : Fin k1_t13_loop.trips) : Fin 2 → Nat :=
  let c0_i32_36 : BitVec 32 := 0#32
  let c1_i32_38 : BitVec 32 := 1#32
  let arg9 : BitVec 32 := Scf.iv c0_i32_36 c1_i32_38 k1_t13
  let c512_i32 : BitVec 32 := 512#32
  let v133 : BitVec 32 := Scalar.muli arg9 c512_i32
  let v134 : Index := Scalar.indexCast v133
  let c0_56 : Index := 0#32
  ![v134.toNat, 0]
def k1_cond15 (i : grid1.Coords) : BitVec 1 :=
  let arg0 : BitVec 32 := BitVec.ofNat 32 (i 0).val
  let c4_i32_40 : BitVec 32 := 4#32
  let v109 : BitVec 1 := Scalar.cmpi .eq arg0 c4_i32_40
  let v110 : BitVec 32 := Scalar.extui v109
  let c0_i32_41 : BitVec 32 := 0#32
  let v111 : BitVec 1 := Scalar.cmpi .ne v110 c0_i32_41
  v111

@[reducible] def k1_t14_loop : Scf.Loop 32 :=
  let c0_i32_56 : BitVec 32 := 0#32
  let c128_i32 : BitVec 32 := 128#32
  let v133 : BitVec 32 := Scalar.addi c0_i32_56 c128_i32
  let c1_i32_57 : BitVec 32 := 1#32
  ⟨c0_i32_56, v133, c1_i32_57⟩
def k1_off31 (k1_t14 : Fin k1_t14_loop.trips) : Fin 2 → Nat :=
  let c0_i32_56 : BitVec 32 := 0#32
  let c1_i32_57 : BitVec 32 := 1#32
  let arg9 : BitVec 32 := Scf.iv c0_i32_56 c1_i32_57 k1_t14
  let c16_i32 : BitVec 32 := 16#32
  let v134 : BitVec 32 := Scalar.muli arg9 c16_i32
  let v137 : Index := Scalar.indexCast v134
  let c0_61 : Index := 0#32
  ![v137.toNat, 0]
def k1_off32 (k1_t14 : Fin k1_t14_loop.trips) : Fin 2 → Nat :=
  let c0_i32_56 : BitVec 32 := 0#32
  let c1_i32_57 : BitVec 32 := 1#32
  let arg9 : BitVec 32 := Scf.iv c0_i32_56 c1_i32_57 k1_t14
  let c2_i32_59 : BitVec 32 := 2#32
  let v135 : BitVec 32 := Scalar.muli arg9 c2_i32_59
  let c16_i32_60 : BitVec 32 := 16#32
  let v136 : BitVec 32 := Scalar.muli v135 c16_i32_60
  let v139 : Index := Scalar.indexCast v136
  let c0_62 : Index := 0#32
  ![v139.toNat, 0]
def k1_off33 (k1_t14 : Fin k1_t14_loop.trips) : Fin 2 → Nat :=
  let c0_i32_56 : BitVec 32 := 0#32
  let c1_i32_57 : BitVec 32 := 1#32
  let arg9 : BitVec 32 := Scf.iv c0_i32_56 c1_i32_57 k1_t14
  let c2_i32_59 : BitVec 32 := 2#32
  let v135 : BitVec 32 := Scalar.muli arg9 c2_i32_59
  let c16_i32_60 : BitVec 32 := 16#32
  let v136 : BitVec 32 := Scalar.muli v135 c16_i32_60
  let c16_i32_64 : BitVec 32 := 16#32
  let v143 : BitVec 32 := Scalar.addi v136 c16_i32_64
  let v144 : Index := Scalar.indexCast v143
  let c0_65 : Index := 0#32
  ![v144.toNat, 0]
def k1_cond16 (i : grid1.Coords) : BitVec 1 :=
  let arg0 : BitVec 32 := BitVec.ofNat 32 (i 0).val
  let c5_i32_42 : BitVec 32 := 5#32
  let v112 : BitVec 1 := Scalar.cmpi .eq arg0 c5_i32_42
  let v113 : BitVec 32 := Scalar.extui v112
  let c0_i32_43 : BitVec 32 := 0#32
  let v114 : BitVec 1 := Scalar.cmpi .ne v113 c0_i32_43
  v114

@[reducible] def k1_t15_loop : Scf.Loop 32 :=
  let c0_i32_56 : BitVec 32 := 0#32
  let c64_i32_57 : BitVec 32 := 64#32
  let v133 : BitVec 32 := Scalar.addi c0_i32_56 c64_i32_57
  let c1_i32_58 : BitVec 32 := 1#32
  ⟨c0_i32_56, v133, c1_i32_58⟩
def k1_off34 (k1_t15 : Fin k1_t15_loop.trips) : Fin 2 → Nat :=
  let c0_i32_56 : BitVec 32 := 0#32
  let c1_i32_58 : BitVec 32 := 1#32
  let arg9 : BitVec 32 := Scf.iv c0_i32_56 c1_i32_58 k1_t15
  let c32_i32 : BitVec 32 := 32#32
  let v134 : BitVec 32 := Scalar.muli arg9 c32_i32
  let v137 : Index := Scalar.indexCast v134
  let c0_62 : Index := 0#32
  ![v137.toNat, 0]
def k1_off35 (k1_t15 : Fin k1_t15_loop.trips) : Fin 2 → Nat :=
  let c0_i32_56 : BitVec 32 := 0#32
  let c1_i32_58 : BitVec 32 := 1#32
  let arg9 : BitVec 32 := Scf.iv c0_i32_56 c1_i32_58 k1_t15
  let c2_i32_60 : BitVec 32 := 2#32
  let v135 : BitVec 32 := Scalar.muli arg9 c2_i32_60
  let c32_i32_61 : BitVec 32 := 32#32
  let v136 : BitVec 32 := Scalar.muli v135 c32_i32_61
  let v139 : Index := Scalar.indexCast v136
  let c0_63 : Index := 0#32
  ![v139.toNat, 0]
def k1_off36 (k1_t15 : Fin k1_t15_loop.trips) : Fin 2 → Nat :=
  let c0_i32_56 : BitVec 32 := 0#32
  let c1_i32_58 : BitVec 32 := 1#32
  let arg9 : BitVec 32 := Scf.iv c0_i32_56 c1_i32_58 k1_t15
  let c2_i32_60 : BitVec 32 := 2#32
  let v135 : BitVec 32 := Scalar.muli arg9 c2_i32_60
  let c32_i32_61 : BitVec 32 := 32#32
  let v136 : BitVec 32 := Scalar.muli v135 c32_i32_61
  let c32_i32_65 : BitVec 32 := 32#32
  let v143 : BitVec 32 := Scalar.addi v136 c32_i32_65
  let v144 : Index := Scalar.indexCast v143
  let c0_66 : Index := 0#32
  ![v144.toNat, 0]
def k1_cond17 (i : grid1.Coords) : BitVec 1 :=
  let arg0 : BitVec 32 := BitVec.ofNat 32 (i 0).val
  let c6_i32_44 : BitVec 32 := 6#32
  let v115 : BitVec 1 := Scalar.cmpi .eq arg0 c6_i32_44
  let v116 : BitVec 32 := Scalar.extui v115
  let c0_i32_45 : BitVec 32 := 0#32
  let v117 : BitVec 1 := Scalar.cmpi .ne v116 c0_i32_45
  v117

@[reducible] def k1_t16_loop : Scf.Loop 32 :=
  let c0_i32_56 : BitVec 32 := 0#32
  let c32_i32 : BitVec 32 := 32#32
  let v133 : BitVec 32 := Scalar.addi c0_i32_56 c32_i32
  let c1_i32_57 : BitVec 32 := 1#32
  ⟨c0_i32_56, v133, c1_i32_57⟩
def k1_off37 (k1_t16 : Fin k1_t16_loop.trips) : Fin 2 → Nat :=
  let c0_i32_56 : BitVec 32 := 0#32
  let c1_i32_57 : BitVec 32 := 1#32
  let arg9 : BitVec 32 := Scf.iv c0_i32_56 c1_i32_57 k1_t16
  let c64_i32_59 : BitVec 32 := 64#32
  let v134 : BitVec 32 := Scalar.muli arg9 c64_i32_59
  let v137 : Index := Scalar.indexCast v134
  let c0_62 : Index := 0#32
  ![v137.toNat, 0]
def k1_off38 (k1_t16 : Fin k1_t16_loop.trips) : Fin 2 → Nat :=
  let c0_i32_56 : BitVec 32 := 0#32
  let c1_i32_57 : BitVec 32 := 1#32
  let arg9 : BitVec 32 := Scf.iv c0_i32_56 c1_i32_57 k1_t16
  let c2_i32_60 : BitVec 32 := 2#32
  let v135 : BitVec 32 := Scalar.muli arg9 c2_i32_60
  let c64_i32_61 : BitVec 32 := 64#32
  let v136 : BitVec 32 := Scalar.muli v135 c64_i32_61
  let v139 : Index := Scalar.indexCast v136
  let c0_63 : Index := 0#32
  ![v139.toNat, 0]
def k1_off39 (k1_t16 : Fin k1_t16_loop.trips) : Fin 2 → Nat :=
  let c0_i32_56 : BitVec 32 := 0#32
  let c1_i32_57 : BitVec 32 := 1#32
  let arg9 : BitVec 32 := Scf.iv c0_i32_56 c1_i32_57 k1_t16
  let c2_i32_60 : BitVec 32 := 2#32
  let v135 : BitVec 32 := Scalar.muli arg9 c2_i32_60
  let c64_i32_61 : BitVec 32 := 64#32
  let v136 : BitVec 32 := Scalar.muli v135 c64_i32_61
  let c64_i32_65 : BitVec 32 := 64#32
  let v143 : BitVec 32 := Scalar.addi v136 c64_i32_65
  let v144 : Index := Scalar.indexCast v143
  let c0_66 : Index := 0#32
  ![v144.toNat, 0]
def k1_cond18 (i : grid1.Coords) : BitVec 1 :=
  let arg0 : BitVec 32 := BitVec.ofNat 32 (i 0).val
  let c7_i32_46 : BitVec 32 := 7#32
  let v118 : BitVec 1 := Scalar.cmpi .eq arg0 c7_i32_46
  let v119 : BitVec 32 := Scalar.extui v118
  let c0_i32_47 : BitVec 32 := 0#32
  let v120 : BitVec 1 := Scalar.cmpi .ne v119 c0_i32_47
  v120

@[reducible] def k1_t17_loop : Scf.Loop 32 :=
  let c0_i32_56 : BitVec 32 := 0#32
  let c16_i32 : BitVec 32 := 16#32
  let v133 : BitVec 32 := Scalar.addi c0_i32_56 c16_i32
  let c1_i32_57 : BitVec 32 := 1#32
  ⟨c0_i32_56, v133, c1_i32_57⟩
def k1_off40 (k1_t17 : Fin k1_t17_loop.trips) : Fin 2 → Nat :=
  let c0_i32_56 : BitVec 32 := 0#32
  let c1_i32_57 : BitVec 32 := 1#32
  let arg9 : BitVec 32 := Scf.iv c0_i32_56 c1_i32_57 k1_t17
  let c128_i32 : BitVec 32 := 128#32
  let v134 : BitVec 32 := Scalar.muli arg9 c128_i32
  let v137 : Index := Scalar.indexCast v134
  let c0_61 : Index := 0#32
  ![v137.toNat, 0]
def k1_off41 (k1_t17 : Fin k1_t17_loop.trips) : Fin 2 → Nat :=
  let c0_i32_56 : BitVec 32 := 0#32
  let c1_i32_57 : BitVec 32 := 1#32
  let arg9 : BitVec 32 := Scf.iv c0_i32_56 c1_i32_57 k1_t17
  let c2_i32_59 : BitVec 32 := 2#32
  let v135 : BitVec 32 := Scalar.muli arg9 c2_i32_59
  let c128_i32_60 : BitVec 32 := 128#32
  let v136 : BitVec 32 := Scalar.muli v135 c128_i32_60
  let v139 : Index := Scalar.indexCast v136
  let c0_62 : Index := 0#32
  ![v139.toNat, 0]
def k1_off42 (k1_t17 : Fin k1_t17_loop.trips) : Fin 2 → Nat :=
  let c0_i32_56 : BitVec 32 := 0#32
  let c1_i32_57 : BitVec 32 := 1#32
  let arg9 : BitVec 32 := Scf.iv c0_i32_56 c1_i32_57 k1_t17
  let c2_i32_59 : BitVec 32 := 2#32
  let v135 : BitVec 32 := Scalar.muli arg9 c2_i32_59
  let c128_i32_60 : BitVec 32 := 128#32
  let v136 : BitVec 32 := Scalar.muli v135 c128_i32_60
  let c128_i32_64 : BitVec 32 := 128#32
  let v143 : BitVec 32 := Scalar.addi v136 c128_i32_64
  let v144 : Index := Scalar.indexCast v143
  let c0_65 : Index := 0#32
  ![v144.toNat, 0]
def k1_cond19 (i : grid1.Coords) : BitVec 1 :=
  let arg0 : BitVec 32 := BitVec.ofNat 32 (i 0).val
  let c8_i32_48 : BitVec 32 := 8#32
  let v121 : BitVec 1 := Scalar.cmpi .eq arg0 c8_i32_48
  let v122 : BitVec 32 := Scalar.extui v121
  let c0_i32_49 : BitVec 32 := 0#32
  let v123 : BitVec 1 := Scalar.cmpi .ne v122 c0_i32_49
  v123

@[reducible] def k1_t18_loop : Scf.Loop 32 :=
  let c0_i32_56 : BitVec 32 := 0#32
  let c8_i32_57 : BitVec 32 := 8#32
  let v133 : BitVec 32 := Scalar.addi c0_i32_56 c8_i32_57
  let c1_i32_58 : BitVec 32 := 1#32
  ⟨c0_i32_56, v133, c1_i32_58⟩
def k1_off43 (k1_t18 : Fin k1_t18_loop.trips) : Fin 2 → Nat :=
  let c0_i32_56 : BitVec 32 := 0#32
  let c1_i32_58 : BitVec 32 := 1#32
  let arg9 : BitVec 32 := Scf.iv c0_i32_56 c1_i32_58 k1_t18
  let c256_i32 : BitVec 32 := 256#32
  let v134 : BitVec 32 := Scalar.muli arg9 c256_i32
  let v137 : Index := Scalar.indexCast v134
  let c0_62 : Index := 0#32
  ![v137.toNat, 0]
def k1_off44 (k1_t18 : Fin k1_t18_loop.trips) : Fin 2 → Nat :=
  let c0_i32_56 : BitVec 32 := 0#32
  let c1_i32_58 : BitVec 32 := 1#32
  let arg9 : BitVec 32 := Scf.iv c0_i32_56 c1_i32_58 k1_t18
  let c2_i32_60 : BitVec 32 := 2#32
  let v135 : BitVec 32 := Scalar.muli arg9 c2_i32_60
  let c256_i32_61 : BitVec 32 := 256#32
  let v136 : BitVec 32 := Scalar.muli v135 c256_i32_61
  let v139 : Index := Scalar.indexCast v136
  let c0_63 : Index := 0#32
  ![v139.toNat, 0]
def k1_off45 (k1_t18 : Fin k1_t18_loop.trips) : Fin 2 → Nat :=
  let c0_i32_56 : BitVec 32 := 0#32
  let c1_i32_58 : BitVec 32 := 1#32
  let arg9 : BitVec 32 := Scf.iv c0_i32_56 c1_i32_58 k1_t18
  let c2_i32_60 : BitVec 32 := 2#32
  let v135 : BitVec 32 := Scalar.muli arg9 c2_i32_60
  let c256_i32_61 : BitVec 32 := 256#32
  let v136 : BitVec 32 := Scalar.muli v135 c256_i32_61
  let c256_i32_65 : BitVec 32 := 256#32
  let v143 : BitVec 32 := Scalar.addi v136 c256_i32_65
  let v144 : Index := Scalar.indexCast v143
  let c0_66 : Index := 0#32
  ![v144.toNat, 0]
def k1_cond20 (i : grid1.Coords) : BitVec 1 :=
  let arg0 : BitVec 32 := BitVec.ofNat 32 (i 0).val
  let c9_i32_50 : BitVec 32 := 9#32
  let v124 : BitVec 1 := Scalar.cmpi .eq arg0 c9_i32_50
  let v125 : BitVec 32 := Scalar.extui v124
  let c0_i32_51 : BitVec 32 := 0#32
  let v126 : BitVec 1 := Scalar.cmpi .ne v125 c0_i32_51
  v126

@[reducible] def k1_t19_loop : Scf.Loop 32 :=
  let c0_i32_56 : BitVec 32 := 0#32
  let c4_i32_57 : BitVec 32 := 4#32
  let v133 : BitVec 32 := Scalar.addi c0_i32_56 c4_i32_57
  let c1_i32_58 : BitVec 32 := 1#32
  ⟨c0_i32_56, v133, c1_i32_58⟩
def k1_off46 (k1_t19 : Fin k1_t19_loop.trips) : Fin 2 → Nat :=
  let c0_i32_56 : BitVec 32 := 0#32
  let c1_i32_58 : BitVec 32 := 1#32
  let arg9 : BitVec 32 := Scf.iv c0_i32_56 c1_i32_58 k1_t19
  let c512_i32 : BitVec 32 := 512#32
  let v134 : BitVec 32 := Scalar.muli arg9 c512_i32
  let v137 : Index := Scalar.indexCast v134
  let c0_62 : Index := 0#32
  ![v137.toNat, 0]
def k1_off47 (k1_t19 : Fin k1_t19_loop.trips) : Fin 2 → Nat :=
  let c0_i32_56 : BitVec 32 := 0#32
  let c1_i32_58 : BitVec 32 := 1#32
  let arg9 : BitVec 32 := Scf.iv c0_i32_56 c1_i32_58 k1_t19
  let c2_i32_60 : BitVec 32 := 2#32
  let v135 : BitVec 32 := Scalar.muli arg9 c2_i32_60
  let c512_i32_61 : BitVec 32 := 512#32
  let v136 : BitVec 32 := Scalar.muli v135 c512_i32_61
  let v139 : Index := Scalar.indexCast v136
  let c0_63 : Index := 0#32
  ![v139.toNat, 0]
def k1_off48 (k1_t19 : Fin k1_t19_loop.trips) : Fin 2 → Nat :=
  let c0_i32_56 : BitVec 32 := 0#32
  let c1_i32_58 : BitVec 32 := 1#32
  let arg9 : BitVec 32 := Scf.iv c0_i32_56 c1_i32_58 k1_t19
  let c2_i32_60 : BitVec 32 := 2#32
  let v135 : BitVec 32 := Scalar.muli arg9 c2_i32_60
  let c512_i32_61 : BitVec 32 := 512#32
  let v136 : BitVec 32 := Scalar.muli v135 c512_i32_61
  let c512_i32_65 : BitVec 32 := 512#32
  let v143 : BitVec 32 := Scalar.addi v136 c512_i32_65
  let v144 : Index := Scalar.indexCast v143
  let c0_66 : Index := 0#32
  ![v144.toNat, 0]
def k1_cond21 (i : grid1.Coords) : BitVec 1 :=
  let arg0 : BitVec 32 := BitVec.ofNat 32 (i 0).val
  let c10_i32_52 : BitVec 32 := 10#32
  let v127 : BitVec 1 := Scalar.cmpi .eq arg0 c10_i32_52
  let v128 : BitVec 32 := Scalar.extui v127
  let c0_i32_53 : BitVec 32 := 0#32
  let v129 : BitVec 1 := Scalar.cmpi .ne v128 c0_i32_53
  v129

@[reducible] def k1_t20_loop : Scf.Loop 32 :=
  let c0_i32_56 : BitVec 32 := 0#32
  let c2_i32_57 : BitVec 32 := 2#32
  let v133 : BitVec 32 := Scalar.addi c0_i32_56 c2_i32_57
  let c1_i32_58 : BitVec 32 := 1#32
  ⟨c0_i32_56, v133, c1_i32_58⟩
def k1_off49 (k1_t20 : Fin k1_t20_loop.trips) : Fin 2 → Nat :=
  let c0_i32_56 : BitVec 32 := 0#32
  let c1_i32_58 : BitVec 32 := 1#32
  let arg9 : BitVec 32 := Scf.iv c0_i32_56 c1_i32_58 k1_t20
  let c1024_i32 : BitVec 32 := 1024#32
  let v134 : BitVec 32 := Scalar.muli arg9 c1024_i32
  let v137 : Index := Scalar.indexCast v134
  let c0_62 : Index := 0#32
  ![v137.toNat, 0]
def k1_off50 (k1_t20 : Fin k1_t20_loop.trips) : Fin 2 → Nat :=
  let c0_i32_56 : BitVec 32 := 0#32
  let c1_i32_58 : BitVec 32 := 1#32
  let arg9 : BitVec 32 := Scf.iv c0_i32_56 c1_i32_58 k1_t20
  let c2_i32_60 : BitVec 32 := 2#32
  let v135 : BitVec 32 := Scalar.muli arg9 c2_i32_60
  let c1024_i32_61 : BitVec 32 := 1024#32
  let v136 : BitVec 32 := Scalar.muli v135 c1024_i32_61
  let v139 : Index := Scalar.indexCast v136
  let c0_63 : Index := 0#32
  ![v139.toNat, 0]
def k1_off51 (k1_t20 : Fin k1_t20_loop.trips) : Fin 2 → Nat :=
  let c0_i32_56 : BitVec 32 := 0#32
  let c1_i32_58 : BitVec 32 := 1#32
  let arg9 : BitVec 32 := Scf.iv c0_i32_56 c1_i32_58 k1_t20
  let c2_i32_60 : BitVec 32 := 2#32
  let v135 : BitVec 32 := Scalar.muli arg9 c2_i32_60
  let c1024_i32_61 : BitVec 32 := 1024#32
  let v136 : BitVec 32 := Scalar.muli v135 c1024_i32_61
  let c1024_i32_65 : BitVec 32 := 1024#32
  let v143 : BitVec 32 := Scalar.addi v136 c1024_i32_65
  let v144 : Index := Scalar.indexCast v143
  let c0_66 : Index := 0#32
  ![v144.toNat, 0]
def k1_cond22 (i : grid1.Coords) : BitVec 1 :=
  let arg0 : BitVec 32 := BitVec.ofNat 32 (i 0).val
  let c11_i32_54 : BitVec 32 := 11#32
  let v130 : BitVec 1 := Scalar.cmpi .eq arg0 c11_i32_54
  let v131 : BitVec 32 := Scalar.extui v130
  let c0_i32_55 : BitVec 32 := 0#32
  let v132 : BitVec 1 := Scalar.cmpi .ne v131 c0_i32_55
  v132

def k1_off52 : Fin 2 → Nat :=
  let c0_i32_56 : BitVec 32 := 0#32
  let c2048_i32 : BitVec 32 := 2048#32
  let v133 : BitVec 32 := Scalar.muli c0_i32_56 c2048_i32
  let v136 : Index := Scalar.indexCast v133
  let c0_59 : Index := 0#32
  ![v136.toNat, 0]
def k1_off53 : Fin 2 → Nat :=
  let c0_i32_56 : BitVec 32 := 0#32
  let c2_i32_57 : BitVec 32 := 2#32
  let v134 : BitVec 32 := Scalar.muli c0_i32_56 c2_i32_57
  let c2048_i32_58 : BitVec 32 := 2048#32
  let v135 : BitVec 32 := Scalar.muli v134 c2048_i32_58
  let v138 : Index := Scalar.indexCast v135
  let c0_60 : Index := 0#32
  ![v138.toNat, 0]
def k1_off54 : Fin 2 → Nat :=
  let c0_i32_56 : BitVec 32 := 0#32
  let c2_i32_57 : BitVec 32 := 2#32
  let v134 : BitVec 32 := Scalar.muli c0_i32_56 c2_i32_57
  let c2048_i32_58 : BitVec 32 := 2048#32
  let v135 : BitVec 32 := Scalar.muli v134 c2048_i32_58
  let c2048_i32_62 : BitVec 32 := 2048#32
  let v142 : BitVec 32 := Scalar.addi v135 c2048_i32_62
  let v143 : Index := Scalar.indexCast v142
  let c0_63 : Index := 0#32
  ![v143.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1536x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S1x4096x768 : Shape := ⟨3, ![1, 4096, 768]⟩
abbrev S768x768 : Shape := ⟨2, ![768, 768]⟩
abbrev S12x1536x768 : Shape := ⟨3, ![12, 1536, 768]⟩
abbrev S1x4096x12x64 : Shape := ⟨4, ![1, 4096, 12, 64]⟩
abbrev S1x12x4096x64 : Shape := ⟨4, ![1, 12, 4096, 64]⟩
abbrev S4096 : Shape := ⟨1, ![4096]⟩
abbrev S_ : Shape := ⟨0, ![]⟩
abbrev S1x1536x768 : Shape := ⟨3, ![1, 1536, 768]⟩
abbrev S1536x768 : Shape := ⟨2, ![1536, 768]⟩
abbrev S768x1536 : Shape := ⟨2, ![768, 1536]⟩
abbrev S1x4096x1536 : Shape := ⟨3, ![1, 4096, 1536]⟩
abbrev S4096x1 : Shape := ⟨2, ![4096, 1]⟩
abbrev S1x12x4096 : Shape := ⟨3, ![1, 12, 4096]⟩
abbrev S1x12x4096x1 : Shape := ⟨4, ![1, 12, 4096, 1]⟩
abbrev S1x12x4096x2 : Shape := ⟨4, ![1, 12, 4096, 2]⟩

abbrev nBuf : Space → Nat
  | .hbm => 109
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S768x768, .f32⟩
  | .hbm, ⟨2, _⟩ => ⟨S12x1536x768, .f32⟩
  | .hbm, ⟨3, _⟩ => ⟨S768x768, .f32⟩
  | .hbm, ⟨4, _⟩ => ⟨S1x4096x768, .f32⟩
  | .hbm, ⟨5, _⟩ => ⟨S1x4096x12x64, .f32⟩
  | .hbm, ⟨6, _⟩ => ⟨S1x12x4096x64, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S12x1536x768, .f32⟩
  | .hbm, ⟨11, _⟩ => ⟨S4096, .i32⟩
  | .hbm, ⟨12, _⟩ => ⟨S1x12x4096x64, .f32⟩
  | .hbm, ⟨13, _⟩ => ⟨S_, .i32⟩
  | .hbm, ⟨14, _⟩ => ⟨S_, .i32⟩
  | .hbm, ⟨15, _⟩ => ⟨S1x4096x768, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1536x768, .f32⟩
  | .hbm, ⟨29, _⟩ => ⟨S1536x768, .f32⟩
  | .hbm, ⟨30, _⟩ => ⟨S768x1536, .f32⟩
  | .hbm, ⟨31, _⟩ => ⟨S1x4096x1536, .f32⟩
  | .hbm, ⟨32, _⟩ => ⟨S1x4096x768, .f32⟩
  | .hbm, ⟨33, _⟩ => ⟨S1x4096x12x64, .f32⟩
  | .hbm, ⟨34, _⟩ => ⟨S1x12x4096x64, .f32⟩
  | .hbm, ⟨35, _⟩ => ⟨S1x4096x768, .f32⟩
  | .hbm, ⟨36, _⟩ => ⟨S1x4096x12x64, .f32⟩
  | .hbm, ⟨37, _⟩ => ⟨S1x12x4096x64, .f32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S1x12x4096x64, .f32⟩
  | .hbm, ⟨55, _⟩ => ⟨S4096x1, .i32⟩
  | .hbm, ⟨56, _⟩ => ⟨S1x12x4096x64, .f32⟩
  | .hbm, ⟨57, _⟩ => ⟨S1x12x4096x64, .f32⟩
  | .hbm, ⟨58, _⟩ => ⟨S_, .f32⟩
  | .hbm, ⟨59, _⟩ => ⟨S1x12x4096, .f32⟩
  | .hbm, ⟨60, _⟩ => ⟨S_, .f32⟩
  | .hbm, ⟨61, _⟩ => ⟨S1x12x4096, .f32⟩
  | .hbm, ⟨62, _⟩ => ⟨S1x12x4096, .f32⟩
  | .hbm, ⟨63, _⟩ => ⟨S4096x1, .i32⟩
  | .hbm, ⟨64, _⟩ => ⟨S1x12x4096x64, .f32⟩
  | .hbm, ⟨65, _⟩ => ⟨S1x12x4096x64, .f32⟩
  | .hbm, ⟨66, _⟩ => ⟨S_, .f32⟩
  | .hbm, ⟨67, _⟩ => ⟨S1x12x4096, .f32⟩
  | .hbm, ⟨68, _⟩ => ⟨S_, .f32⟩
  | .hbm, ⟨69, _⟩ => ⟨S1x12x4096, .f32⟩
  | .hbm, ⟨70, _⟩ => ⟨S1x12x4096, .f32⟩
  | .hbm, ⟨71, _⟩ => ⟨S1x12x4096x1, .f32⟩
  | .hbm, ⟨72, _⟩ => ⟨S1x12x4096x1, .f32⟩
  | .hbm, ⟨73, _⟩ => ⟨S1x12x4096x2, .f32⟩
  | .hbm, ⟨74, _⟩ => ⟨S_, .f32⟩
  | .hbm, ⟨75, _⟩ => ⟨S1x12x4096, .f32⟩
  | .hbm, ⟨76, _⟩ => ⟨S_, .f32⟩
  | .hbm, ⟨77, _⟩ => ⟨S1x12x4096, .f32⟩
  | .hbm, ⟨78, _⟩ => ⟨S1x12x4096, .f32⟩
  | .hbm, ⟨79, _⟩ => ⟨S1x12x4096x1, .f32⟩
  | .hbm, ⟨80, _⟩ => ⟨S1x12x4096x2, .f32⟩
  | .hbm, ⟨81, _⟩ => ⟨S1x12x4096x2, .f32⟩
  | .hbm, ⟨82, _⟩ => ⟨S1x12x4096x2, .f32⟩
  | .hbm, ⟨83, _⟩ => ⟨S_, .f32⟩
  | .hbm, ⟨84, _⟩ => ⟨S1x12x4096, .f32⟩
  | .hbm, ⟨85, _⟩ => ⟨S1x12x4096x1, .f32⟩
  | .hbm, ⟨86, _⟩ => ⟨S1x12x4096x2, .f32⟩
  | .hbm, ⟨87, _⟩ => ⟨S1x12x4096x2, .f32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S1x12x4096x1, .f32⟩
  | .hbm, ⟨92, _⟩ => ⟨S1x12x4096, .f32⟩
  | .hbm, ⟨93, _⟩ => ⟨S1x12x4096x1, .f32⟩
  | .hbm, ⟨94, _⟩ => ⟨S1x12x4096, .f32⟩
  | .hbm, ⟨95, _⟩ => ⟨S1x12x4096, .i1⟩
  | .hbm, ⟨96, _⟩ => ⟨S1x12x4096, .f32⟩
  | .hbm, ⟨97, _⟩ => ⟨S1x12x4096x1, .f32⟩
  | .hbm, ⟨98, _⟩ => ⟨S4096x1, .i32⟩
  | .hbm, ⟨99, _⟩ => ⟨S1x12x4096x64, .f32⟩
  | .hbm, ⟨100, _⟩ => ⟨S4096x1, .i32⟩
  | .hbm, ⟨101, _⟩ => ⟨S1x12x4096x64, .f32⟩
  | .hbm, ⟨102, _⟩ => ⟨S1x12x4096x64, .f32⟩
  | .hbm, ⟨103, _⟩ => ⟨S1x12x4096x64, .f32⟩
  | .hbm, ⟨104, _⟩ => ⟨S1x12x4096x64, .f32⟩
  | .hbm, ⟨105, _⟩ => ⟨S1x4096x12x64, .f32⟩
  | .hbm, ⟨106, _⟩ => ⟨S1x4096x768, .f32⟩
  | .hbm, ⟨107, _⟩ => ⟨S_, .i32⟩
  | .hbm, ⟨108, _⟩ => ⟨S_, .i32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_while0c_c_6 : Ref sig .tc := ⟨.hbm, 16, rfl⟩
abbrev main_while0c_v6 : Ref sig .tc := ⟨.hbm, 17, rfl⟩
abbrev main_while0b_c_6 : Ref sig .tc := ⟨.hbm, 18, rfl⟩
abbrev main_while0b_v6 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_call0_c_0 : Ref sig .tc := ⟨.hbm, 23, rfl⟩
abbrev main_while0b_call0_v2 : Ref sig .tc := ⟨.hbm, 24, rfl⟩
abbrev main_while0b_call0_v3 : Ref sig .tc := ⟨.hbm, 25, rfl⟩
abbrev main_while0b_call0_c_1 : Ref sig .tc := ⟨.hbm, 26, rfl⟩
abbrev main_while0b_call0_c_2 : Ref sig .tc := ⟨.hbm, 27, rfl⟩
abbrev main_while0b_call0_v4 : Ref sig .tc := ⟨.hbm, 28, rfl⟩
abbrev main_while0b_v7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_c_7 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_c_8 : Ref sig .tc := ⟨.hbm, 49, rfl⟩
abbrev main_while0b_v26 : Ref sig .tc := ⟨.hbm, 50, rfl⟩
abbrev main_while0b_v27 : Ref sig .tc := ⟨.hbm, 51, rfl⟩
abbrev main_while0b_v28 : Ref sig .tc := ⟨.hbm, 52, rfl⟩
abbrev main_while0b_call1_v0 : Ref sig .tc := ⟨.hbm, 53, rfl⟩
abbrev main_while0b_v29 : Ref sig .tc := ⟨.hbm, 54, rfl⟩
abbrev main_while0b_call2_v0 : Ref sig .tc := ⟨.hbm, 55, rfl⟩
abbrev main_while0b_v30 : Ref sig .tc := ⟨.hbm, 56, rfl⟩
abbrev main_while0b_v31 : Ref sig .tc := ⟨.hbm, 57, rfl⟩
abbrev main_while0b_cst : Ref sig .tc := ⟨.hbm, 58, rfl⟩
abbrev main_while0b_v32 : Ref sig .tc := ⟨.hbm, 59, rfl⟩
abbrev main_while0b_cst_9 : Ref sig .tc := ⟨.hbm, 60, rfl⟩
abbrev main_while0b_v33 : Ref sig .tc := ⟨.hbm, 61, rfl⟩
abbrev main_while0b_v34 : Ref sig .tc := ⟨.hbm, 62, rfl⟩
abbrev main_while0b_call3_v0 : Ref sig .tc := ⟨.hbm, 63, rfl⟩
abbrev main_while0b_v35 : Ref sig .tc := ⟨.hbm, 64, rfl⟩
abbrev main_while0b_v36 : Ref sig .tc := ⟨.hbm, 65, rfl⟩
abbrev main_while0b_cst_10 : Ref sig .tc := ⟨.hbm, 66, rfl⟩
abbrev main_while0b_v37 : Ref sig .tc := ⟨.hbm, 67, rfl⟩
abbrev main_while0b_cst_11 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_cst_12 : Ref sig .tc := ⟨.hbm, 74, rfl⟩
abbrev main_while0b_v43 : Ref sig .tc := ⟨.hbm, 75, rfl⟩
abbrev main_while0b_cst_13 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_cst_14 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_c_15 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_call4_v0 : Ref sig .tc := ⟨.hbm, 95, rfl⟩
abbrev main_while0b_v60 : Ref sig .tc := ⟨.hbm, 96, rfl⟩
abbrev main_while0b_v61 : Ref sig .tc := ⟨.hbm, 97, rfl⟩
abbrev main_while0b_call5_v0 : Ref sig .tc := ⟨.hbm, 98, rfl⟩
abbrev main_while0b_v62 : Ref sig .tc := ⟨.hbm, 99, rfl⟩
abbrev main_while0b_call6_v0 : Ref sig .tc := ⟨.hbm, 100, rfl⟩
abbrev main_while0b_v63 : Ref sig .tc := ⟨.hbm, 101, rfl⟩
abbrev main_while0b_v64 : Ref sig .tc := ⟨.hbm, 102, rfl⟩
abbrev main_while0b_v65 : Ref sig .tc := ⟨.hbm, 103, rfl⟩
abbrev main_while0b_v66 : Ref sig .tc := ⟨.hbm, 104, rfl⟩
abbrev main_while0b_v67 : Ref sig .tc := ⟨.hbm, 105, rfl⟩
abbrev main_while0b_v68 : Ref sig .tc := ⟨.hbm, 106, rfl⟩
abbrev main_while0b_c_16 : Ref sig .tc := ⟨.hbm, 107, rfl⟩
abbrev main_while0b_v69 : Ref sig .tc := ⟨.hbm, 108, rfl⟩

abbrev nD : Nat := 1
abbrev τ : Topo := Topo.v7x

variable {F : FTy → Type} [FloatOps F]

abbrev main_while0_count : Scf.Loop 32 := ⟨0#32, 12#32, 1#32⟩
-- ==== Proof.Rows.lean ====
/-
  Tables of rows, and what a counted loop that stores whole rows leaves in a buffer.

  A buffer of shape `R × C` read through its view is a table. The loops of the stage kernel store into one block of
  rows per trip, the blocks following one another; the lemmas here say what the table is after the last trip, from
  what one trip stores.
-/
module

public import Idealize.ShloMosaic.Lib.Tactic
public import Idealize.ShloMosaic.Lib.WritesUnit
public import Idealize.ShloMosaic.Lib.Pointwise

@[expose] public section

namespace Cert.Rows

open Idealize.ShloMosaic

variable {α : Type}

/-- The entry of table `T` at row number `r` (taken modulo the number of rows) and column `d`. -/
def row {R C : ℕ} [NeZero R] (T : (⟨2, ![R, C]⟩ : Shape).Idx → α) (r : ℕ) (d : Fin C) : α := T (ix2 (Fin.ofNat R r) d)

/-- The block of `n` rows of `T` from row `o` on. -/
def blk {R C : ℕ} [NeZero R] (n : ℕ) (T : (⟨2, ![R, C]⟩ : Shape).Idx → α) (o : ℕ) : (⟨2, ![n, C]⟩ : Shape).Idx → α :=
  fun x => row T (o + (x 0).val) (x 1)

/-- The entry named by an index is the entry at its two coordinates. -/
theorem row_coords {R C : ℕ} [NeZero R] (T : (⟨2, ![R, C]⟩ : Shape).Idx → α) (y : (⟨2, ![R, C]⟩ : Shape).Idx) (r : ℕ) (d : Fin C)
    (h0 : (y 0).val = r) (h1 : y 1 = d) : row T r d = T y := by
  subst h0 h1
  unfold row
  congr 1
  rw [eq_ix2 y]
  congr 1
  ext
  exact Nat.mod_eq_of_lt (y 0).isLt

/-- The first row of a pair: the pairs are at distance `st`, `r` numbers the pairs in order. -/
def aRow (st r : ℕ) : ℕ := 2 * st * (r / st) + r % st

/-- The table of the first rows of the pairs of `T`. -/
def gatherA (st : ℕ) {R R' C : ℕ} [NeZero R] (T : (⟨2, ![R, C]⟩ : Shape).Idx → α) : (⟨2, ![R', C]⟩ : Shape).Idx → α :=
  fun y => row T (aRow st (y 0).val) (y 1)

/-- The table of the second rows of the pairs of `T`. -/
def gatherB (st : ℕ) {R R' C : ℕ} [NeZero R] (T : (⟨2, ![R, C]⟩ : Shape).Idx → α) : (⟨2, ![R', C]⟩ : Shape).Idx → α :=
  fun y => row T (aRow st (y 0).val + st) (y 1)

/-- The table whose pairs have their first rows in `Ta` and their second rows in `Tb`. -/
def scatter (st : ℕ) {R R' C : ℕ} [NeZero R'] (Ta Tb : (⟨2, ![R', C]⟩ : Shape).Idx → α) : (⟨2, ![R, C]⟩ : Shape).Idx → α :=
  fun y => if (y 0).val % (2 * st) < st then row Ta (st * ((y 0).val / (2 * st)) + (y 0).val % (2 * st)) (y 1)
    else row Tb (st * ((y 0).val / (2 * st)) + ((y 0).val % (2 * st) - st)) (y 1)

theorem aRow_block {st : ℕ} (hst : 0 < st) (k x : ℕ) (hx : x < st) : aRow st (st * k + x) = 2 * st * k + x := by
  unfold aRow
  rw [Nat.mul_add_div hst, Nat.div_eq_of_lt hx, Nat.mul_add_mod, Nat.mod_eq_of_lt hx, Nat.add_zero]

section Loop

variable {sig : RefSig} {κ : Kind} {sp : Space} {e : EltTy} {Val : EltTy → Type} {R C : ℕ}

/-- What a load of `n` whole rows from row `o` on reads: that block of the table. -/
theorem readAt_rows [NeZero R] (v : View sig κ sp (⟨2, ![R, C]⟩ : Shape) e) (X : v.ty.Contents Val) {n o : ℕ} {off : Fin 2 → ℕ}
    (inb : ∀ a : Fin 2, off a + (![n, C] : Fin 2 → ℕ) a ≤ (![R, C] : Fin 2 → ℕ) a) (hoff : off = ![o, 0]) :
    v.readAt Val (Rect.unit (s := ⟨2, ![R, C]⟩) off ![n, C] inb).toLoadRect X = blk n (v.read Val X) o := by
  subst hoff
  funext x
  unfold blk
  refine (row_coords (v.read Val X) ((Rect.unit (s := ⟨2, ![R, C]⟩) ![o, 0] ![n, C] inb).emb x) _ _ ?_ ?_).symm
  · show o + 1 * (x 0).val = o + (x 0).val
    omega
  · apply Fin.ext
    show 0 + 1 * (x 1).val = (x 1).val
    omega

/-- A loop whose trip `k` stores the block of rows `B k … B (k+1)` leaves the table `T`, if each trip stores that block of `T`.
    What trip `k` stores may be told from the rows it has not reached yet, which hold what they held before the loop. -/
theorem rows_loop (v : View sig κ sp (⟨2, ![R, C]⟩ : Shape) e) (f0 : v.ty.Contents Val)
    (pb : ℕ → List (View.Piece Val (⟨2, ![R, C]⟩ : Shape) e)) (T : (⟨2, ![R, C]⟩ : Shape).Idx → Val e) (B n : ℕ)
    (h0 : pb 0 = [])
    (hs : ∀ k < n, (∀ y : (⟨2, ![R, C]⟩ : Shape).Idx, B * k ≤ (y 0).val → v.read Val (v.writes Val f0 (pb k)) y = v.read Val f0 y) →
      ∃ (off : Fin 2 → ℕ) (inb : ∀ a : Fin 2, off a + (![B, C] : Fin 2 → ℕ) a ≤ (![R, C] : Fin 2 → ℕ) a)
        (w : (⟨2, ![B, C]⟩ : Shape).Idx → Val e),
        pb (k + 1) = (⟨Rect.unit (s := ⟨2, ![R, C]⟩) off ![B, C] inb, w⟩ : View.Piece Val (⟨2, ![R, C]⟩ : Shape) e) :: pb k
        ∧ off = ![B * k, 0]
        ∧ ∀ (x : (⟨2, ![B, C]⟩ : Shape).Idx) (y : (⟨2, ![R, C]⟩ : Shape).Idx), (y 0).val = B * k + (x 0).val → y 1 = x 1 → w x = T y)
    (hn : B * n = R) : v.read Val (v.writes Val f0 (pb n)) = T := by
  have key : ∀ k ≤ n, ∀ y : (⟨2, ![R, C]⟩ : Shape).Idx,
      v.read Val (v.writes Val f0 (pb k)) y = if (y 0).val < B * k then T y else v.read Val f0 y := by
    intro k
    induction k with
    | zero => intro _ y; rw [h0, Nat.mul_zero, if_neg (Nat.not_lt_zero _)]; rfl
    | succ k ih =>
      intro hk y
      have ihk := ih (by omega)
      obtain ⟨off, inb, w, hpb, hoff, hw⟩ := hs k (by omega) fun y hy => by rw [ihk y, if_neg (by omega)]
      rw [hpb]
      have hB : B * (k + 1) = B * k + B := Nat.mul_succ B k
      by_cases hy : B * k ≤ (y 0).val ∧ (y 0).val < B * k + B
      · rw [if_pos (by omega)]
        have hxlt : (y 0).val - B * k < B := by omega
        rw [View.read_writes_cons_rows_of_mem v f0 inb w (pb k) y (ix2 ⟨(y 0).val - B * k, hxlt⟩ (y 1)) hoff
          (by show (y 0).val = B * k + ((y 0).val - B * k); omega) rfl]
        exact hw _ y (by show (y 0).val = B * k + ((y 0).val - B * k); omega) rfl
      · rw [View.read_writes_cons_rows_of_not_mem (o := B * k) (W := B) v f0 inb w (pb k) y hoff rfl (by omega), ihk y]
        by_cases h1 : (y 0).val < B * k
        · rw [if_pos h1, if_pos (by omega)]
        · rw [if_neg h1, if_neg (by omega)]
  funext y
  rw [key n le_rfl y, if_pos]
  rw [hn]
  exact (y 0).isLt

/-- A loop whose trip `k` stores pair block `k` — `st` first rows from row `2 st k` on, then the `st` second rows — from two tables
    leaves the table whose pairs are those tables' rows. -/
theorem scatter_loop {R' : ℕ} [NeZero R'] (v : View sig κ sp (⟨2, ![R, C]⟩ : Shape) e) (f0 : v.ty.Contents Val)
    (pb : ℕ → List (View.Piece Val (⟨2, ![R, C]⟩ : Shape) e)) (Ta Tb : (⟨2, ![R', C]⟩ : Shape).Idx → Val e) (st n : ℕ) (hst : 0 < st)
    (h0 : pb 0 = [])
    (hs : ∀ k < n,
      ∃ (off1 off2 : Fin 2 → ℕ) (inb1 : ∀ a : Fin 2, off1 a + (![st, C] : Fin 2 → ℕ) a ≤ (![R, C] : Fin 2 → ℕ) a)
        (inb2 : ∀ a : Fin 2, off2 a + (![st, C] : Fin 2 → ℕ) a ≤ (![R, C] : Fin 2 → ℕ) a)
        (w1 w2 : (⟨2, ![st, C]⟩ : Shape).Idx → Val e),
        pb (k + 1) = (⟨Rect.unit (s := ⟨2, ![R, C]⟩) off2 ![st, C] inb2, w2⟩ : View.Piece Val (⟨2, ![R, C]⟩ : Shape) e)
          :: (⟨Rect.unit (s := ⟨2, ![R, C]⟩) off1 ![st, C] inb1, w1⟩ : View.Piece Val (⟨2, ![R, C]⟩ : Shape) e) :: pb k
        ∧ off1 = ![2 * st * k, 0] ∧ off2 = ![2 * st * k + st, 0]
        ∧ w1 = blk st Ta (st * k) ∧ w2 = blk st Tb (st * k))
    (hn : 2 * st * n = R) : v.read Val (v.writes Val f0 (pb n)) = scatter st Ta Tb := by
  have key : ∀ k ≤ n, ∀ y : (⟨2, ![R, C]⟩ : Shape).Idx, (y 0).val < 2 * st * k →
      v.read Val (v.writes Val f0 (pb k)) y = scatter st Ta Tb y := by
    intro k
    induction k with
    | zero => intro _ y hy; exact absurd hy (Nat.not_lt_zero _)
    | succ k ih =>
      intro hk y hy
      have ihk := ih (by omega) y
      obtain ⟨off1, off2, inb1, inb2, w1, w2, hpb, hoff1, hoff2, hw1, hw2⟩ := hs k (by omega)
      rw [hpb]
      have hB : 2 * st * (k + 1) = 2 * st * k + 2 * st := Nat.mul_succ _ k
      have split (x : ℕ) (hx : x < 2 * st) (hyx : (y 0).val = 2 * st * k + x) :
          (y 0).val / (2 * st) = k ∧ (y 0).val % (2 * st) = x := by
        rw [hyx]
        exact ⟨by rw [Nat.mul_add_div (by omega), Nat.div_eq_of_lt hx, Nat.add_zero], by rw [Nat.mul_add_mod, Nat.mod_eq_of_lt hx]⟩
      by_cases h2 : 2 * st * k + st ≤ (y 0).val
      · obtain ⟨hd, hm⟩ := split ((y 0).val - 2 * st * k) (by omega) (by omega)
        rw [View.read_writes_cons_rows_of_mem v f0 inb2 w2 _ y (ix2 ⟨(y 0).val - 2 * st * k - st, by omega⟩ (y 1)) hoff2
          (by show (y 0).val = 2 * st * k + st + ((y 0).val - 2 * st * k - st); omega) rfl, hw2]
        unfold scatter blk
        rw [if_neg (by omega), hd, hm]
        rfl
      · rw [View.read_writes_cons_rows_of_not_mem (o := 2 * st * k + st) (W := st) v f0 inb2 w2 _ y hoff2 rfl (by omega)]
        by_cases h1 : 2 * st * k ≤ (y 0).val
        · obtain ⟨hd, hm⟩ := split ((y 0).val - 2 * st * k) (by omega) (by omega)
          rw [View.read_writes_cons_rows_of_mem v f0 inb1 w1 _ y (ix2 ⟨(y 0).val - 2 * st * k, by omega⟩ (y 1)) hoff1
            (by show (y 0).val = 2 * st * k + ((y 0).val - 2 * st * k); omega) rfl, hw1]
          unfold scatter blk
          rw [if_pos (by omega), hd, hm]
          rfl
        · rw [View.read_writes_cons_rows_of_not_mem (o := 2 * st * k) (W := st) v f0 inb1 w1 _ y hoff1 rfl (by omega)]
          exact ihk (by omega)
  funext y
  refine key n le_rfl y ?_
  rw [hn]
  exact (y 0).isLt

/-- A block of first rows of the pairs is a block of the gathered table. -/
theorem blk_gatherA {R' : ℕ} [NeZero R] {α : Type} (T : (⟨2, ![R, C]⟩ : Shape).Idx → α) {st : ℕ} (hst : 0 < st) (k : ℕ)
    (x : (⟨2, ![st, C]⟩ : Shape).Idx) (y : (⟨2, ![R', C]⟩ : Shape).Idx) (h0 : (y 0).val = st * k + (x 0).val) (h1 : y 1 = x 1) :
    blk st T (2 * st * k) x = gatherA st T y := by
  unfold blk gatherA
  rw [h0, h1, aRow_block hst k (x 0).val (x 0).isLt]

/-- A block of second rows of the pairs is a block of the gathered table. -/
theorem blk_gatherB {R' : ℕ} [NeZero R] {α : Type} (T : (⟨2, ![R, C]⟩ : Shape).Idx → α) {st : ℕ} (hst : 0 < st) (k : ℕ)
    (x : (⟨2, ![st, C]⟩ : Shape).Idx) (y : (⟨2, ![R', C]⟩ : Shape).Idx) (h0 : (y 0).val = st * k + (x 0).val) (h1 : y 1 = x 1) :
    blk st T (2 * st * k + st) x = gatherB st T y := by
  unfold blk gatherB
  rw [h0, h1, aRow_block hst k (x 0).val (x 0).isLt]
  congr 1
  omega

/-- A loop whose trip `k` stores into three buffers: the first rows of pair block `k` of one table, its second rows, and the
    combination by `g` of the first with the second rows of another table. -/
theorem gather_loop {R' : ℕ} [NeZero R] (v1 v3 : View sig κ sp (⟨2, ![R, C]⟩ : Shape) e) (v4 v5 v6 : View sig κ sp (⟨2, ![R', C]⟩ : Shape) e)
    (X1 : v1.ty.Contents Val) (X3 : v3.ty.Contents Val) (G4 : v4.ty.Contents Val) (G5 : v5.ty.Contents Val) (G6 : v6.ty.Contents Val)
    (g : Val e → Val e → Val e)
    (pb : ℕ → List (View.Piece Val (⟨2, ![R', C]⟩ : Shape) e) × List (View.Piece Val (⟨2, ![R', C]⟩ : Shape) e) × List (View.Piece Val (⟨2, ![R', C]⟩ : Shape) e))
    (st n : ℕ) (hst : 0 < st) (h0 : pb 0 = ([], [], []))
    (hs : ∀ k < n, ∃ (o oa ob : Fin 2 → ℕ) (inb : ∀ a : Fin 2, o a + (![st, C] : Fin 2 → ℕ) a ≤ (![R', C] : Fin 2 → ℕ) a)
      (inba : ∀ a : Fin 2, oa a + (![st, C] : Fin 2 → ℕ) a ≤ (![R, C] : Fin 2 → ℕ) a)
      (inbb : ∀ a : Fin 2, ob a + (![st, C] : Fin 2 → ℕ) a ≤ (![R, C] : Fin 2 → ℕ) a),
      o = ![st * k, 0] ∧ oa = ![2 * st * k, 0] ∧ ob = ![2 * st * k + st, 0] ∧
      pb (k + 1) =
        ((⟨Rect.unit (s := ⟨2, ![R', C]⟩) o ![st, C] inb, v3.readAt Val (Rect.unit (s := ⟨2, ![R, C]⟩) oa ![st, C] inba).toLoadRect X3⟩
            : View.Piece Val (⟨2, ![R', C]⟩ : Shape) e) :: (pb k).1,
         (⟨Rect.unit (s := ⟨2, ![R', C]⟩) o ![st, C] inb, v3.readAt Val (Rect.unit (s := ⟨2, ![R, C]⟩) ob ![st, C] inbb).toLoadRect X3⟩
            : View.Piece Val (⟨2, ![R', C]⟩ : Shape) e) :: (pb k).2.1,
         (⟨Rect.unit (s := ⟨2, ![R', C]⟩) o ![st, C] inb, fun x => g (v1.readAt Val (Rect.unit (s := ⟨2, ![R, C]⟩) oa ![st, C] inba).toLoadRect X1 x)
              (v1.readAt Val (Rect.unit (s := ⟨2, ![R, C]⟩) ob ![st, C] inbb).toLoadRect X1 x)⟩
            : View.Piece Val (⟨2, ![R', C]⟩ : Shape) e) :: (pb k).2.2))
    (hn : st * n = R') :
    v4.read Val (v4.writes Val G4 (pb n).1) = gatherA st (v3.read Val X3)
    ∧ v5.read Val (v5.writes Val G5 (pb n).2.1) = gatherB st (v3.read Val X3)
    ∧ v6.read Val (v6.writes Val G6 (pb n).2.2) = fun y => g (gatherA st (v1.read Val X1) y) (gatherB st (v1.read Val X1) y) := by
  refine ⟨rows_loop v4 G4 (fun k => (pb k).1) _ st n (by rw [h0]) (fun k hk _ => ?_) hn,
    rows_loop v5 G5 (fun k => (pb k).2.1) _ st n (by rw [h0]) (fun k hk _ => ?_) hn,
    rows_loop v6 G6 (fun k => (pb k).2.2) _ st n (by rw [h0]) (fun k hk _ => ?_) hn⟩ <;>
  obtain ⟨o, oa, ob, inb, inba, inbb, ho, hoa, hob, hpb⟩ := hs k hk
  · refine ⟨o, inb, _, by rw [hpb], ho, fun x y h0 h1 => ?_⟩
    rw [readAt_rows v3 X3 inba hoa]
    exact blk_gatherA _ hst k x y h0 h1
  · refine ⟨o, inb, _, by rw [hpb], ho, fun x y h0 h1 => ?_⟩
    rw [readAt_rows v3 X3 inbb hob]
    exact blk_gatherB _ hst k x y h0 h1
  · refine ⟨o, inb, _, by rw [hpb], ho, fun x y h0 h1 => ?_⟩
    rw [readAt_rows v1 X1 inba hoa, readAt_rows v1 X1 inbb hob, blk_gatherA _ hst k x y h0 h1, blk_gatherB _ hst k x y h0 h1]

/-- A table computed tile by tile, `B` rows at a time: `P k` is tile `k`. -/
def byTile (B : ℕ) [NeZero B] {R C : ℕ} {α : Type} (P : ℕ → (⟨2, ![B, C]⟩ : Shape).Idx → α) : (⟨2, ![R, C]⟩ : Shape).Idx → α :=
  fun y => P ((y 0).val / B) (ix2 (Fin.ofNat B (y 0).val) (y 1))

/-- Row `B k + x` of such a table is row `x` of tile `k`. -/
theorem byTile_block (B : ℕ) [NeZero B] {α : Type} (P : ℕ → (⟨2, ![B, C]⟩ : Shape).Idx → α) (k : ℕ)
    (x : (⟨2, ![B, C]⟩ : Shape).Idx) (y : (⟨2, ![R, C]⟩ : Shape).Idx) (h0 : (y 0).val = B * k + (x 0).val) (h1 : y 1 = x 1) :
    byTile B P y = P k x := by
  have hx : (x 0).val < B := (x 0).isLt
  unfold byTile
  rw [h0, h1, Nat.mul_add_div (Nat.pos_of_ne_zero (NeZero.ne B)), Nat.div_eq_of_lt hx, Nat.add_zero]
  congr 1
  rw [eq_ix2 x]
  congr 1
  apply Fin.ext
  show (B * k + (x 0).val) % B = (x 0).val
  rw [Nat.mul_add_mod, Nat.mod_eq_of_lt hx]

/-- A loop whose trip `k` replaces tile `k` of a table by a function of that tile and of the same tile of another table. -/
theorem inplace_loop [NeZero R] (v1 v3 : View sig κ sp (⟨2, ![R, C]⟩ : Shape) e) (X1 : v1.ty.Contents Val) (G : v3.ty.Contents Val)
    (pb : ℕ → List (View.Piece Val (⟨2, ![R, C]⟩ : Shape) e)) (B n : ℕ) [NeZero B]
    (P : ((⟨2, ![B, C]⟩ : Shape).Idx → Val e) → ((⟨2, ![B, C]⟩ : Shape).Idx → Val e) → (⟨2, ![B, C]⟩ : Shape).Idx → Val e)
    (h0 : pb 0 = [])
    (hs : ∀ k < n, ∃ (off : Fin 2 → ℕ) (inb : ∀ a : Fin 2, off a + (![B, C] : Fin 2 → ℕ) a ≤ (![R, C] : Fin 2 → ℕ) a),
      off = ![B * k, 0] ∧
      pb (k + 1) = (⟨Rect.unit (s := ⟨2, ![R, C]⟩) off ![B, C] inb,
        P (v3.readAt Val (Rect.unit (s := ⟨2, ![R, C]⟩) off ![B, C] inb).toLoadRect (v3.writes Val G (pb k)))
          (v1.readAt Val (Rect.unit (s := ⟨2, ![R, C]⟩) off ![B, C] inb).toLoadRect X1)⟩
        : View.Piece Val (⟨2, ![R, C]⟩ : Shape) e) :: pb k)
    (hn : B * n = R) :
    v3.read Val (v3.writes Val G (pb n))
      = byTile B fun k => P (blk B (v3.read Val G) (B * k)) (blk B (v1.read Val X1) (B * k)) := by
  refine rows_loop v3 G pb _ B n h0 (fun k hk hprev => ?_) hn
  obtain ⟨off, inb, hoff, hpb⟩ := hs k hk
  refine ⟨off, inb, _, hpb, hoff, fun x y hy0 hy1 => ?_⟩
  rw [byTile_block B _ k x y hy0 hy1, readAt_rows v3 _ inb hoff, readAt_rows v1 _ inb hoff]
  refine congrFun (congrArg (fun t => P t (blk B (v1.read Val X1) (B * k))) (funext fun z => ?_)) x
  have hz : (z 0).val < B := (z 0).isLt
  have hB : B * (k + 1) = B * k + B := Nat.mul_succ B k
  have hle : B * (k + 1) ≤ B * n := Nat.mul_le_mul_left B hk
  refine hprev (ix2 (Fin.ofNat R (B * k + (z 0).val)) (z 1)) ?_
  show B * k ≤ (B * k + (z 0).val) % R
  rw [Nat.mod_eq_of_lt (by omega)]
  omega

/-- The block of all the rows is the table. -/
theorem blk_all [NeZero R] {α : Type} (T : (⟨2, ![R, C]⟩ : Shape).Idx → α) : (blk R T 0 : (⟨2, ![R, C]⟩ : Shape).Idx → α) = T := by
  funext y
  unfold blk
  exact row_coords T y _ _ (Nat.zero_add _).symm rfl

/-- A load of the whole table reads it. -/
theorem readAt_all [NeZero R] (v : View sig κ sp (⟨2, ![R, C]⟩ : Shape) e) (X : v.ty.Contents Val)
    (inb : ∀ a : Fin 2, (![0, 0] : Fin 2 → ℕ) a + (![R, C] : Fin 2 → ℕ) a ≤ (![R, C] : Fin 2 → ℕ) a) :
    v.readAt Val (Rect.unit (s := ⟨2, ![R, C]⟩) ![0, 0] ![R, C] inb).toLoadRect X = v.read Val X :=
  (readAt_rows v X inb rfl).trans (blk_all _)

/-- After one store of the whole table, the table is what was stored. -/
theorem read_write_all [NeZero R] (v : View sig κ sp (⟨2, ![R, C]⟩ : Shape) e) (X : v.ty.Contents Val)
    (inb : ∀ a : Fin 2, (![0, 0] : Fin 2 → ℕ) a + (![R, C] : Fin 2 → ℕ) a ≤ (![R, C] : Fin 2 → ℕ) a) (w : (⟨2, ![R, C]⟩ : Shape).Idx → Val e) :
    v.read Val (v.writes Val X [⟨Rect.unit (s := ⟨2, ![R, C]⟩) ![0, 0] ![R, C] inb, w⟩]) = w := by
  refine rows_loop v X (fun k => if k = 0 then [] else [⟨Rect.unit (s := ⟨2, ![R, C]⟩) ![0, 0] ![R, C] inb, w⟩]) w R 1 rfl (fun k hk _ => ?_) (by omega)
  obtain rfl : k = 0 := by omega
  refine ⟨![0, 0], inb, w, rfl, rfl, fun x y h0 h1 => congrArg w ?_⟩
  rw [Nat.mul_zero, Nat.zero_add] at h0
  funext a
  match a with
  | 0 => exact Fin.ext h0.symm
  | 1 => exact h1.symm

end Loop

end Cert.Rows
-- ==== Proof.IdealStage.lean ====
/-
  What the stage kernel stores at each step of its grid, as tables.

  Step `c` of the grid mixes rows at distance `2 ^ c`. For `c < 4` the kernel works on tiles of 512 rows, in place: a row's partner
  is in its own tile and is brought next to it by rotating the tile (`loTile`). For `c ≥ 4` it gathers the first and the second
  rows of the pairs into two tables, works on those tile by tile, and scatters the two results back (`hiStage`). Each counted loop
  has one lemma here: the table that it leaves.
-/
module

public import proofs.«01_k».proof.Proof.Gen.KernelIdeal.Loops
public import proofs.«01_k».proof.Proof.Rows

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.Sem

variable {F : FTy → Type} [FloatOps F]

/-- For a tile of 512 rows and a distance `s` (`s' = 512 - s`): the weight of each row for the sum of the row and its partner. -/
def loW (s s' : BitVec 32) (v4 : FVec F S768x768 .bf16) (v6 : FVec F S768x768 .bf16) (v37 : FVec F S768x12 .bf16) (v68 : FVec F S12x768 .bf16)
    (v87 : Vec F S512x768 .bf16) : FVec F S512x768 .f32 :=
  have v88 : FVec F S512x768 .bf16 := shapeCast S512x768 v87 shapeCasts_S512x768_S512x768
  have v89 : FVec F S512x768 .f32 := extf .f32 v88 bitsLt_bf16_f32
  have v90 : FVec F S512x768 .f32 := dynamicRotate 0 s none v89 rotates_S512x768_d0
  have v91 : IVec S512x1 32 := iota .tc S512x1 32 [0] iota_S512x1_d0_w32
  have v92 : IVec S512x1 32 := broadcast S512x1 s
  have v93 : IVec S512x1 32 := andi v91 v92
  have v94 : IVec S512x1 32 := broadcast S512x1 0#32
  have v95 : IVec S512x1 1 := cmpi .ne v93 v94
  have v96 : IVec S512x1 1 := shapeCast S512x1 v95 shapeCasts_S512x1_S512x1
  have v97 : IVec S512x768 1 := broadcastTo S512x768 v96 broadcasts_S512x1_S512x768
  have v98 : FVec F S512x768 .f32 := select v97 v90 v89
  have v99 : FVec F S512x768 .bf16 := truncf .bf16 v98 bitsLt_bf16_f32
  have cst_34 : FVec F S512x768 .f32 := constant S512x768 .f32 0x00000000#32
  have v100 : FVec F S512x768 .f32 := matmul dot_S512x768_S768x768_S512x768_1_1_0_0_n_n none v99 v4 cst_34
  have cst_35 : FVec F S512x768 .f32 := constant S512x768 .f32 0x00000000#32
  have v101 : FVec F S512x768 .f32 := matmul dot_S512x768_S768x768_S512x768_1_1_0_0_n_n none v88 v6 cst_35
  have v102 : FVec F S512x768 .f32 := mulf v100 v101
  have v103 : FVec F S512x768 .bf16 := truncf .bf16 v102 bitsLt_bf16_f32
  have cst_36 : FVec F S512x12 .f32 := constant S512x12 .f32 0x00000000#32
  have v104 : FVec F S512x12 .f32 := matmul dot_S512x768_S768x12_S512x12_1_0_0_1_n_n none v103 v37 cst_36
  have v105 : FVec F S512x12 .f32 := dynamicRotate 0 s none v104 rotates_S512x12_d0
  have v106 : FVec F S512x12 .f32 := dynamicRotate 0 s' none v104 rotates_S512x12_d0
  have v107 : IVec S512x1 32 := iota .tc S512x1 32 [0] iota_S512x1_d0_w32
  have v108 : IVec S512x1 32 := broadcast S512x1 s
  have v109 : IVec S512x1 32 := andi v107 v108
  have v110 : IVec S512x1 32 := broadcast S512x1 0#32
  have v111 : IVec S512x1 1 := cmpi .ne v109 v110
  have v112 : IVec S512x1 1 := shapeCast S512x1 v111 shapeCasts_S512x1_S512x1
  have v113 : IVec S512x12 1 := broadcastTo S512x12 v112 broadcasts_S512x1_S512x12
  have v114 : FVec F S512x12 .f32 := select v113 v105 v106
  have v115 : FVec F S512x12 .f32 := subf v104 v114
  have v116 : FVec F S512x12 .f32 := logistic v115
  have v117 : FVec F S512x12 .bf16 := truncf .bf16 v116 bitsLt_bf16_f32
  have cst_40 : FVec F S512x768 .f32 := constant S512x768 .f32 0x00000000#32
  have v118 : FVec F S512x768 .f32 := matmul dot_S512x12_S12x768_S512x768_1_0_0_1_n_n none v117 v68 cst_40
  v118

/-- A tile of the values, for a distance `s`: each row added to its partner, times the row's weight. -/
def loTile (s s' : BitVec 32) (v4 : FVec F S768x768 .bf16) (v6 : FVec F S768x768 .bf16) (v37 : FVec F S768x12 .bf16) (v68 : FVec F S12x768 .bf16)
    (v87 v120 : Vec F S512x768 .bf16) : FVec F S512x768 .bf16 :=
  have v118 : FVec F S512x768 .f32 := loW s s' v4 v6 v37 v68 v87
  have v121 : FVec F S512x768 .bf16 := shapeCast S512x768 v120 shapeCasts_S512x768_S512x768
  have v122 : FVec F S512x768 .f32 := extf .f32 v121 bitsLt_bf16_f32
  have v123 : FVec F S512x768 .f32 := dynamicRotate 0 s none v122 rotates_S512x768_d0
  have v124 : FVec F S512x768 .f32 := dynamicRotate 0 s' none v122 rotates_S512x768_d0
  have v127 : IVec S512x1 32 := andi (iota .tc S512x1 32 [0] iota_S512x1_d0_w32) (broadcast S512x1 s)
  have v128 : IVec S512x1 32 := broadcast S512x1 0#32
  have v129 : IVec S512x1 1 := cmpi .ne v127 v128
  have v130 : IVec S512x1 1 := shapeCast S512x1 v129 shapeCasts_S512x1_S512x1
  have v131 : IVec S512x768 1 := broadcastTo S512x768 v130 broadcasts_S512x1_S512x768
  have v132 : FVec F S512x768 .f32 := select v131 v123 v124
  have v133 : FVec F S512x768 .f32 := addf v122 v132
  have v134 : FVec F S512x768 .f32 := mulf v118 v133
  have v135 : FVec F S512x768 .bf16 := truncf .bf16 v134 bitsLt_bf16_f32
  v135

/-- The matrix that spreads a head's weight over the head's columns. -/
def bmat : FVec F S12x768 .bf16 := k1_pay54 (iota .tc S12x768 32 [0] iota_S12x768_d0_w32) (iota .tc S12x768 32 [1] iota_S12x768_d1_w32) 64#32

/-- A stage at a distance below 512, tile by tile: the table `h` of the stage's rows and the table `V` of the values. -/
def loStage (s s' : BitVec 32) (Wq Wk : FVec F S768x768 .bf16) (V h : Vec F S4096x768 .bf16) : Vec F S4096x768 .bf16 :=
  byTile 512 fun k => loTile s s' Wq Wk k1_pay53 bmat (blk 512 h (512 * k)) (blk 512 V (512 * k))

/-- The sums of the two rows of each pair of values. -/
def pairSums (st : ℕ) (V : Vec F S4096x768 .bf16) : Vec F S2048x768 .bf16 :=
  fun y => FloatOps.addf (gatherA (R' := 2048) st V y) (gatherB (R' := 2048) st V y)

/-- What a stage puts into the first rows of the pairs, tile by tile: `ha`, `hb` the pairs' rows, `vs` the pairs' sums of values. -/
def midA (Wq Wk : FVec F S768x768 .bf16) (ha hb vs : Vec F S2048x768 .bf16) : Vec F S2048x768 .bf16 :=
  byTile 512 fun k => k1_pay48 Wq Wk k1_pay53 bmat (blk 512 ha (512 * k)) (blk 512 hb (512 * k)) (blk 512 vs (512 * k))

/-- What a stage puts into the second rows of the pairs. -/
def midB (Wq Wk : FVec F S768x768 .bf16) (ha hb vs : Vec F S2048x768 .bf16) : Vec F S2048x768 .bf16 :=
  byTile 512 fun k => k1_pay49 Wq Wk k1_pay53 bmat (blk 512 ha (512 * k)) (blk 512 hb (512 * k)) (blk 512 vs (512 * k))

/-- A stage by gather and scatter, at the distance `st`. -/
def hiStage (st : ℕ) (Wq Wk : FVec F S768x768 .bf16) (V h : Vec F S4096x768 .bf16) : Vec F S4096x768 .bf16 :=
  scatter (R' := 2048) st (midA Wq Wk (gatherA st h) (gatherB st h) (pairSums st V)) (midB Wq Wk (gatherA st h) (gatherB st h) (pairSums st V))

/-- A stage's query matrix, from the stage's block of the weights: its first 768 rows. -/
def wq (W : Vec F S1x1536x768 .bf16) : FVec F S768x768 .bf16 :=
  k1_pay51 fun x => W ((Rect.unit (s := S1x1536x768) ![0, 0, 0] S1x768x768.size inb_S1x1536x768_S1x768x768_0_0_0).toLoadRect.idx x)

/-- A stage's key matrix: the other 768 rows. -/
def wk (W : Vec F S1x1536x768 .bf16) : FVec F S768x768 .bf16 :=
  k1_pay52 fun x => W ((Rect.unit (s := S1x1536x768) ![0, 768, 0] S1x768x768.size inb_S1x1536x768_S1x768x768_0_768_0).toLoadRect.idx x)

/-- Stage `n` of the grid: `W` its weights, `V` the values, `h` the rows that the stage before it left. Stage 0 starts from the values. -/
def stage (n : ℕ) (W : Vec F S1x1536x768 .bf16) (V h : Vec F S4096x768 .bf16) : Vec F S4096x768 .bf16 :=
  if n < 4 then loStage (BitVec.ofNat 32 (2 ^ n)) (BitVec.ofNat 32 (512 - 2 ^ n)) (wq W) (wk W) V (if n = 0 then V else h)
  else hiStage (2 ^ n) (wq W) (wk W) V h

section Loops

variable (𝒱 : Variants) (c : Dev nD) (bd : Option 𝒱.V) (i : grid1.Coords) (arg1 : Memref sig .tc .vmem S4096x768 .bf16) (harg1 : arg1.IsWhole)
  (arg2 : Memref sig .tc .vmem S1x1536x768 .bf16) (harg2 : arg2.IsWhole) (arg3 : Memref sig .tc .vmem S4096x768 .bf16) (harg3 : arg3.IsWhole)
  (arg4 : Memref sig .tc .vmem S2048x768 .bf16) (harg4 : arg4.IsWhole) (arg5 : Memref sig .tc .vmem S2048x768 .bf16) (harg5 : arg5.IsWhole)
  (arg6 : Memref sig .tc .vmem S2048x768 .bf16) (harg6 : arg6.IsWhole) (arg7 : Memref sig .tc .vmem S2048x768 .bf16) (harg7 : arg7.IsWhole)
  (arg8 : Memref sig .tc .vmem S2048x768 .bf16) (harg8 : arg8.IsWhole)
  (arg0 : BitVec 32) (v4 v6 : FVec F S768x768 .bf16)

/-- The copy of the values into the result: the result becomes the values. -/
theorem table1 (h1 : k1_cond1 i = 1#1) (X1 : arg1.view.ty.Contents (Elt F)) (G3 : arg3.view.ty.Contents (Elt F)) :
    arg3.view.read (Elt F) (arg3.view.writes (Elt F) G3 (pb_k1_t1 𝒱 c bd i arg1 harg1 arg2 harg2 arg3 harg3 arg4 harg4 arg5 harg5
        arg6 harg6 arg7 harg7 arg8 harg8 h1 X1 k1_t1_loop.trips)) = arg1.view.read (Elt F) X1 := by
  refine rows_loop arg3.view G3 _ _ 512 k1_t1_loop.trips rfl (fun k hk _ => ⟨k1_off1 ⟨k, hk⟩, k1_off1_inb i ⟨k, hk⟩ h1,
    arg1.view.readAt (Elt F) (Rect.unit (s := S4096x768) (k1_off1 ⟨k, hk⟩) S512x768.size (k1_off1_inb i ⟨k, hk⟩ h1)).toLoadRect X1, ?_,
    k1_off1_eq ⟨k, hk⟩, fun x y h0 h1' => ?_⟩) (by decide)
  · refine (pb_k1_t1_succ 𝒱 c bd i arg1 harg1 arg2 harg2 arg3 harg3 arg4 harg4 arg5 harg5
        arg6 harg6 arg7 harg7 arg8 harg8 h1 X1 ⟨k, hk⟩).trans ?_
    unfold tripL_k1_t1 trip_k1_t1 k1_pay50
    simp only [shapeCast_self]
    rfl
  · rw [readAt_rows _ _ _ (k1_off1_eq ⟨k, hk⟩)]
    exact row_coords _ y _ _ h0 h1'

/-- The tiles in place, at the distance 1. -/
theorem table2 (h : k1_cond2 i = 1#1) (X1 : arg1.view.ty.Contents (Elt F)) (G3 : arg3.view.ty.Contents (Elt F)) :
    arg3.view.read (Elt F) (arg3.view.writes (Elt F) G3 (pb_k1_t2 𝒱 c bd i arg1 harg1 arg2 harg2 arg3 harg3 arg4 harg4 arg5 harg5
        arg6 harg6 arg7 harg7 arg8 harg8 arg0 v4 v6 k1_pay53
        (iota .tc S12x768 32 [0] iota_S12x768_d0_w32) (iota .tc S12x768 32 [1] iota_S12x768_d1_w32) 64#32 h X1 G3 k1_t2_loop.trips))
      = loStage 1#32 511#32 v4 v6 (arg1.view.read (Elt F) X1) (arg3.view.read (Elt F) G3) := by
  refine inplace_loop arg1.view arg3.view X1 G3 _ 512 k1_t2_loop.trips (loTile 1#32 511#32 v4 v6 k1_pay53 bmat) rfl
    (fun k hk => ⟨k1_off2 ⟨k, hk⟩, k1_off2_inb i ⟨k, hk⟩ h, k1_off2_eq ⟨k, hk⟩, ?_⟩) (by decide)
  refine (pb_k1_t2_succ 𝒱 c bd i arg1 harg1 arg2 harg2 arg3 harg3 arg4 harg4 arg5 harg5
        arg6 harg6 arg7 harg7 arg8 harg8 arg0 v4 v6 k1_pay53 _ _ _ h X1 G3 ⟨k, hk⟩).trans ?_
  unfold tripL_k1_t2 trip_k1_t2
  rfl

/-- The tiles in place, at the distance 2. -/
theorem table3 (h : k1_cond3 i = 1#1) (X1 : arg1.view.ty.Contents (Elt F)) (G3 : arg3.view.ty.Contents (Elt F)) :
    arg3.view.read (Elt F) (arg3.view.writes (Elt F) G3 (pb_k1_t3 𝒱 c bd i arg1 harg1 arg2 harg2 arg3 harg3 arg4 harg4 arg5 harg5
        arg6 harg6 arg7 harg7 arg8 harg8 arg0 v4 v6 k1_pay53
        (iota .tc S12x768 32 [0] iota_S12x768_d0_w32) (iota .tc S12x768 32 [1] iota_S12x768_d1_w32) 64#32 h X1 G3 k1_t3_loop.trips))
      = loStage 2#32 510#32 v4 v6 (arg1.view.read (Elt F) X1) (arg3.view.read (Elt F) G3) := by
  refine inplace_loop arg1.view arg3.view X1 G3 _ 512 k1_t3_loop.trips (loTile 2#32 510#32 v4 v6 k1_pay53 bmat) rfl
    (fun k hk => ⟨k1_off3 ⟨k, hk⟩, k1_off3_inb i ⟨k, hk⟩ h, k1_off3_eq ⟨k, hk⟩, ?_⟩) (by decide)
  refine (pb_k1_t3_succ 𝒱 c bd i arg1 harg1 arg2 harg2 arg3 harg3 arg4 harg4 arg5 harg5
        arg6 harg6 arg7 harg7 arg8 harg8 arg0 v4 v6 k1_pay53 _ _ _ h X1 G3 ⟨k, hk⟩).trans ?_
  unfold tripL_k1_t3 trip_k1_t3
  rfl

/-- The tiles in place, at the distance 4. -/
theorem table4 (h : k1_cond4 i = 1#1) (X1 : arg1.view.ty.Contents (Elt F)) (G3 : arg3.view.ty.Contents (Elt F)) :
    arg3.view.read (Elt F) (arg3.view.writes (Elt F) G3 (pb_k1_t4 𝒱 c bd i arg1 harg1 arg2 harg2 arg3 harg3 arg4 harg4 arg5 harg5
        arg6 harg6 arg7 harg7 arg8 harg8 arg0 v4 v6 k1_pay53
        (iota .tc S12x768 32 [0] iota_S12x768_d0_w32) (iota .tc S12x768 32 [1] iota_S12x768_d1_w32) 64#32 h X1 G3 k1_t4_loop.trips))
      = loStage 4#32 508#32 v4 v6 (arg1.view.read (Elt F) X1) (arg3.view.read (Elt F) G3) := by
  refine inplace_loop arg1.view arg3.view X1 G3 _ 512 k1_t4_loop.trips (loTile 4#32 508#32 v4 v6 k1_pay53 bmat) rfl
    (fun k hk => ⟨k1_off4 ⟨k, hk⟩, k1_off4_inb i ⟨k, hk⟩ h, k1_off4_eq ⟨k, hk⟩, ?_⟩) (by decide)
  refine (pb_k1_t4_succ 𝒱 c bd i arg1 harg1 arg2 harg2 arg3 harg3 arg4 harg4 arg5 harg5
        arg6 harg6 arg7 harg7 arg8 harg8 arg0 v4 v6 k1_pay53 _ _ _ h X1 G3 ⟨k, hk⟩).trans ?_
  unfold tripL_k1_t4 trip_k1_t4
  rfl

/-- The tiles in place, at the distance 8. -/
theorem table5 (h : k1_cond5 i = 1#1) (X1 : arg1.view.ty.Contents (Elt F)) (G3 : arg3.view.ty.Contents (Elt F)) :
    arg3.view.read (Elt F) (arg3.view.writes (Elt F) G3 (pb_k1_t5 𝒱 c bd i arg1 harg1 arg2 harg2 arg3 harg3 arg4 harg4 arg5 harg5
        arg6 harg6 arg7 harg7 arg8 harg8 v4 v6 k1_pay53 bmat h X1 G3 k1_t5_loop.trips))
      = loStage 8#32 504#32 v4 v6 (arg1.view.read (Elt F) X1) (arg3.view.read (Elt F) G3) := by
  refine inplace_loop arg1.view arg3.view X1 G3 _ 512 k1_t5_loop.trips (loTile 8#32 504#32 v4 v6 k1_pay53 bmat) rfl
    (fun k hk => ⟨k1_off5 ⟨k, hk⟩, k1_off5_inb i ⟨k, hk⟩ h, k1_off5_eq ⟨k, hk⟩, ?_⟩) (by decide)
  refine (pb_k1_t5_succ 𝒱 c bd i arg1 harg1 arg2 harg2 arg3 harg3 arg4 harg4 arg5 harg5
        arg6 harg6 arg7 harg7 arg8 harg8 v4 v6 k1_pay53 bmat h X1 G3 ⟨k, hk⟩).trans ?_
  unfold tripL_k1_t5 trip_k1_t5
  rfl

/-- The gather at the distance 16. -/
theorem table6 (h6 : k1_cond6 i = 1#1) (h : k1_cond7 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t6 𝒱 c bd i arg1 harg1 arg2 harg2 arg3 harg3 arg4 harg4 arg5 harg5
        arg6 harg6 arg7 harg7 arg8 harg8 arg0 v4 v6 k1_pay53 bmat h6 h X1 X3 k1_t6_loop.trips).1) = gatherA 16 (arg3.view.read (Elt F) X3)
    ∧ arg5.view.read (Elt F) (arg5.view.writes (Elt F) G5 (pb_k1_t6 𝒱 c bd i arg1 harg1 arg2 harg2 arg3 harg3 arg4 harg4 arg5 harg5
        arg6 harg6 arg7 harg7 arg8 harg8 arg0 v4 v6 k1_pay53 bmat h6 h X1 X3 k1_t6_loop.trips).2.1) = gatherB 16 (arg3.view.read (Elt F) X3)
    ∧ arg6.view.read (Elt F) (arg6.view.writes (Elt F) G6 (pb_k1_t6 𝒱 c bd i arg1 harg1 arg2 harg2 arg3 harg3 arg4 harg4 arg5 harg5
        arg6 harg6 arg7 harg7 arg8 harg8 arg0 v4 v6 k1_pay53 bmat h6 h X1 X3 k1_t6_loop.trips).2.2) = pairSums 16 (arg1.view.read (Elt F) X1) := by
  refine gather_loop arg1.view arg3.view arg4.view arg5.view arg6.view X1 X3 G4 G5 G6 FloatOps.addf _ 16 k1_t6_loop.trips (by decide) rfl
    (fun k hk => ⟨k1_off7 ⟨k, hk⟩, k1_off6 ⟨k, hk⟩, k1_off8 ⟨k, hk⟩, k1_off7_inb i ⟨k, hk⟩ h6 h, k1_off6_inb i ⟨k, hk⟩ h6 h,
      k1_off8_inb i ⟨k, hk⟩ h6 h, k1_off7_eq ⟨k, hk⟩, k1_off6_eq ⟨k, hk⟩, k1_off8_eq ⟨k, hk⟩, ?_⟩) (by decide)
  refine (pb_k1_t6_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t6 trip_k1_t6 k1_pay22 k1_pay23 k1_pay24
  simp only [shapeCast_self]
  rfl

/-- The gather at the distance 32. -/
theorem table7 (h6 : k1_cond6 i = 1#1) (h : k1_cond8 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t7 𝒱 c bd i arg1 harg1 arg2 harg2 arg3 harg3 arg4 harg4 arg5 harg5
        arg6 harg6 arg7 harg7 arg8 harg8 arg0 v4 v6 k1_pay53 bmat h6 h X1 X3 k1_t7_loop.trips).1) = gatherA 32 (arg3.view.read (Elt F) X3)
    ∧ arg5.view.read (Elt F) (arg5.view.writes (Elt F) G5 (pb_k1_t7 𝒱 c bd i arg1 harg1 arg2 harg2 arg3 harg3 arg4 harg4 arg5 harg5
        arg6 harg6 arg7 harg7 arg8 harg8 arg0 v4 v6 k1_pay53 bmat h6 h X1 X3 k1_t7_loop.trips).2.1) = gatherB 32 (arg3.view.read (Elt F) X3)
    ∧ arg6.view.read (Elt F) (arg6.view.writes (Elt F) G6 (pb_k1_t7 𝒱 c bd i arg1 harg1 arg2 harg2 arg3 harg3 arg4 harg4 arg5 harg5
        arg6 harg6 arg7 harg7 arg8 harg8 arg0 v4 v6 k1_pay53 bmat h6 h X1 X3 k1_t7_loop.trips).2.2) = pairSums 32 (arg1.view.read (Elt F) X1) := by
  refine gather_loop arg1.view arg3.view arg4.view arg5.view arg6.view X1 X3 G4 G5 G6 FloatOps.addf _ 32 k1_t7_loop.trips (by decide) rfl
    (fun k hk => ⟨k1_off10 ⟨k, hk⟩, k1_off9 ⟨k, hk⟩, k1_off11 ⟨k, hk⟩, k1_off10_inb i ⟨k, hk⟩ h6 h, k1_off9_inb i ⟨k, hk⟩ h6 h,
      k1_off11_inb i ⟨k, hk⟩ h6 h, k1_off10_eq ⟨k, hk⟩, k1_off9_eq ⟨k, hk⟩, k1_off11_eq ⟨k, hk⟩, ?_⟩) (by decide)
  refine (pb_k1_t7_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t7 trip_k1_t7 k1_pay25 k1_pay26 k1_pay27
  simp only [shapeCast_self]
  rfl

/-- The gather at the distance 64. -/
theorem table8 (h6 : k1_cond6 i = 1#1) (h : k1_cond9 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t8 𝒱 c bd i arg1 harg1 arg2 harg2 arg3 harg3 arg4 harg4 arg5 harg5
        arg6 harg6 arg7 harg7 arg8 harg8 arg0 v4 v6 k1_pay53 bmat h6 h X1 X3 k1_t8_loop.trips).1) = gatherA 64 (arg3.view.read (Elt F) X3)
    ∧ arg5.view.read (Elt F) (arg5.view.writes (Elt F) G5 (pb_k1_t8 𝒱 c bd i arg1 harg1 arg2 harg2 arg3 harg3 arg4 harg4 arg5 harg5
        arg6 harg6 arg7 harg7 arg8 harg8 arg0 v4 v6 k1_pay53 bmat h6 h X1 X3 k1_t8_loop.trips).2.1) = gatherB 64 (arg3.view.read (Elt F) X3)
    ∧ arg6.view.read (Elt F) (arg6.view.writes (Elt F) G6 (pb_k1_t8 𝒱 c bd i arg1 harg1 arg2 harg2 arg3 harg3 arg4 harg4 arg5 harg5
        arg6 harg6 arg7 harg7 arg8 harg8 arg0 v4 v6 k1_pay53 bmat h6 h X1 X3 k1_t8_loop.trips).2.2) = pairSums 64 (arg1.view.read (Elt F) X1) := by
  refine gather_loop arg1.view arg3.view arg4.view arg5.view arg6.view X1 X3 G4 G5 G6 FloatOps.addf _ 64 k1_t8_loop.trips (by decide) rfl
    (fun k hk => ⟨k1_off13 ⟨k, hk⟩, k1_off12 ⟨k, hk⟩, k1_off14 ⟨k, hk⟩, k1_off13_inb i ⟨k, hk⟩ h6 h, k1_off12_inb i ⟨k, hk⟩ h6 h,
      k1_off14_inb i ⟨k, hk⟩ h6 h, k1_off13_eq ⟨k, hk⟩, k1_off12_eq ⟨k, hk⟩, k1_off14_eq ⟨k, hk⟩, ?_⟩) (by decide)
  refine (pb_k1_t8_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t8 trip_k1_t8 k1_pay28 k1_pay29 k1_pay30
  simp only [shapeCast_self]
  rfl

/-- The gather at the distance 128. -/
theorem table9 (h6 : k1_cond6 i = 1#1) (h : k1_cond10 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t9 𝒱 c bd i arg1 harg1 arg2 harg2 arg3 harg3 arg4 harg4 arg5 harg5
        arg6 harg6 arg7 harg7 arg8 harg8 arg0 v4 v6 k1_pay53 bmat h6 h X1 X3 k1_t9_loop.trips).1) = gatherA 128 (arg3.view.read (Elt F) X3)
    ∧ arg5.view.read (Elt F) (arg5.view.writes (Elt F) G5 (pb_k1_t9 𝒱 c bd i arg1 harg1 arg2 harg2 arg3 harg3 arg4 harg4 arg5 harg5
        arg6 harg6 arg7 harg7 arg8 harg8 arg0 v4 v6 k1_pay53 bmat h6 h X1 X3 k1_t9_loop.trips).2.1) = gatherB 128 (arg3.view.read (Elt F) X3)
    ∧ arg6.view.read (Elt F) (arg6.view.writes (Elt F) G6 (pb_k1_t9 𝒱 c bd i arg1 harg1 arg2 harg2 arg3 harg3 arg4 harg4 arg5 harg5
        arg6 harg6 arg7 harg7 arg8 harg8 arg0 v4 v6 k1_pay53 bmat h6 h X1 X3 k1_t9_loop.trips).2.2) = pairSums 128 (arg1.view.read (Elt F) X1) := by
  refine gather_loop arg1.view arg3.view arg4.view arg5.view arg6.view X1 X3 G4 G5 G6 FloatOps.addf _ 128 k1_t9_loop.trips (by decide) rfl
    (fun k hk => ⟨k1_off16 ⟨k, hk⟩, k1_off15 ⟨k, hk⟩, k1_off17 ⟨k, hk⟩, k1_off16_inb i ⟨k, hk⟩ h6 h, k1_off15_inb i ⟨k, hk⟩ h6 h,
      k1_off17_inb i ⟨k, hk⟩ h6 h, k1_off16_eq ⟨k, hk⟩, k1_off15_eq ⟨k, hk⟩, k1_off17_eq ⟨k, hk⟩, ?_⟩) (by decide)
  refine (pb_k1_t9_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t9 trip_k1_t9 k1_pay31 k1_pay32 k1_pay33
  simp only [shapeCast_self]
  rfl

/-- The gather at the distance 256. -/
theorem table10 (h6 : k1_cond6 i = 1#1) (h : k1_cond11 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t10 𝒱 c bd i arg1 harg1 arg2 harg2 arg3 harg3 arg4 harg4 arg5 harg5
        arg6 harg6 arg7 harg7 arg8 harg8 arg0 v4 v6 k1_pay53 bmat h6 h X1 X3 k1_t10_loop.trips).1) = gatherA 256 (arg3.view.read (Elt F) X3)
    ∧ arg5.view.read (Elt F) (arg5.view.writes (Elt F) G5 (pb_k1_t10 𝒱 c bd i arg1 harg1 arg2 harg2 arg3 harg3 arg4 harg4 arg5 harg5
        arg6 harg6 arg7 harg7 arg8 harg8 arg0 v4 v6 k1_pay53 bmat h6 h X1 X3 k1_t10_loop.trips).2.1) = gatherB 256 (arg3.view.read (Elt F) X3)
    ∧ arg6.view.read (Elt F) (arg6.view.writes (Elt F) G6 (pb_k1_t10 𝒱 c bd i arg1 harg1 arg2 harg2 arg3 harg3 arg4 harg4 arg5 harg5
        arg6 harg6 arg7 harg7 arg8 harg8 arg0 v4 v6 k1_pay53 bmat h6 h X1 X3 k1_t10_loop.trips).2.2) = pairSums 256 (arg1.view.read (Elt F) X1) := by
  refine gather_loop arg1.view arg3.view arg4.view arg5.view arg6.view X1 X3 G4 G5 G6 FloatOps.addf _ 256 k1_t10_loop.trips (by decide) rfl
    (fun k hk => ⟨k1_off19 ⟨k, hk⟩, k1_off18 ⟨k, hk⟩, k1_off20 ⟨k, hk⟩, k1_off19_inb i ⟨k, hk⟩ h6 h, k1_off18_inb i ⟨k, hk⟩ h6 h,
      k1_off20_inb i ⟨k, hk⟩ h6 h, k1_off19_eq ⟨k, hk⟩, k1_off18_eq ⟨k, hk⟩, k1_off20_eq ⟨k, hk⟩, ?_⟩) (by decide)
  refine (pb_k1_t10_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t10 trip_k1_t10 k1_pay34 k1_pay35 k1_pay36
  simp only [shapeCast_self]
  rfl

/-- The gather at the distance 512. -/
theorem table11 (h6 : k1_cond6 i = 1#1) (h : k1_cond12 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t11 𝒱 c bd i arg1 harg1 arg2 harg2 arg3 harg3 arg4 harg4 arg5 harg5
        arg6 harg6 arg7 harg7 arg8 harg8 arg0 v4 v6 k1_pay53 bmat h6 h X1 X3 k1_t11_loop.trips).1) = gatherA 512 (arg3.view.read (Elt F) X3)
    ∧ arg5.view.read (Elt F) (arg5.view.writes (Elt F) G5 (pb_k1_t11 𝒱 c bd i arg1 harg1 arg2 harg2 arg3 harg3 arg4 harg4 arg5 harg5
        arg6 harg6 arg7 harg7 arg8 harg8 arg0 v4 v6 k1_pay53 bmat h6 h X1 X3 k1_t11_loop.trips).2.1) = gatherB 512 (arg3.view.read (Elt F) X3)
    ∧ arg6.view.read (Elt F) (arg6.view.writes (Elt F) G6 (pb_k1_t11 𝒱 c bd i arg1 harg1 arg2 harg2 arg3 harg3 arg4 harg4 arg5 harg5
        arg6 harg6 arg7 harg7 arg8 harg8 arg0 v4 v6 k1_pay53 bmat h6 h X1 X3 k1_t11_loop.trips).2.2) = pairSums 512 (arg1.view.read (Elt F) X1) := by
  refine gather_loop arg1.view arg3.view arg4.view arg5.view arg6.view X1 X3 G4 G5 G6 FloatOps.addf _ 512 k1_t11_loop.trips (by decide) rfl
    (fun k hk => ⟨k1_off22 ⟨k, hk⟩, k1_off21 ⟨k, hk⟩, k1_off23 ⟨k, hk⟩, k1_off22_inb i ⟨k, hk⟩ h6 h, k1_off21_inb i ⟨k, hk⟩ h6 h,
      k1_off23_inb i ⟨k, hk⟩ h6 h, k1_off22_eq ⟨k, hk⟩, k1_off21_eq ⟨k, hk⟩, k1_off23_eq ⟨k, hk⟩, ?_⟩) (by decide)
  refine (pb_k1_t11_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t11 trip_k1_t11 k1_pay37 k1_pay38 k1_pay39
  simp only [shapeCast_self]
  rfl

/-- The gather at the distance 1024. -/
theorem table12 (h6 : k1_cond6 i = 1#1) (h : k1_cond13 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 (pb_k1_t12 𝒱 c bd i arg1 harg1 arg2 harg2 arg3 harg3 arg4 harg4 arg5 harg5
        arg6 harg6 arg7 harg7 arg8 harg8 arg0 v4 v6 k1_pay53 bmat h6 h X1 X3 k1_t12_loop.trips).1) = gatherA 1024 (arg3.view.read (Elt F) X3)
    ∧ arg5.view.read (Elt F) (arg5.view.writes (Elt F) G5 (pb_k1_t12 𝒱 c bd i arg1 harg1 arg2 harg2 arg3 harg3 arg4 harg4 arg5 harg5
        arg6 harg6 arg7 harg7 arg8 harg8 arg0 v4 v6 k1_pay53 bmat h6 h X1 X3 k1_t12_loop.trips).2.1) = gatherB 1024 (arg3.view.read (Elt F) X3)
    ∧ arg6.view.read (Elt F) (arg6.view.writes (Elt F) G6 (pb_k1_t12 𝒱 c bd i arg1 harg1 arg2 harg2 arg3 harg3 arg4 harg4 arg5 harg5
        arg6 harg6 arg7 harg7 arg8 harg8 arg0 v4 v6 k1_pay53 bmat h6 h X1 X3 k1_t12_loop.trips).2.2) = pairSums 1024 (arg1.view.read (Elt F) X1) := by
  refine gather_loop arg1.view arg3.view arg4.view arg5.view arg6.view X1 X3 G4 G5 G6 FloatOps.addf _ 1024 k1_t12_loop.trips (by decide) rfl
    (fun k hk => ⟨k1_off25 ⟨k, hk⟩, k1_off24 ⟨k, hk⟩, k1_off26 ⟨k, hk⟩, k1_off25_inb i ⟨k, hk⟩ h6 h, k1_off24_inb i ⟨k, hk⟩ h6 h,
      k1_off26_inb i ⟨k, hk⟩ h6 h, k1_off25_eq ⟨k, hk⟩, k1_off24_eq ⟨k, hk⟩, k1_off26_eq ⟨k, hk⟩, ?_⟩) (by decide)
  refine (pb_k1_t12_succ 𝒱 c bd i arg1 harg1 arg2 harg2 arg3 harg3 arg4 harg4 arg5 harg5
        arg6 harg6 arg7 harg7 arg8 harg8 arg0 v4 v6 k1_pay53 bmat h6 h X1 X3 ⟨k, hk⟩).trans ?_
  unfold tripL_k1_t12 trip_k1_t12 k1_pay40 k1_pay41 k1_pay42
  simp only [shapeCast_self]
  rfl

/-- The computation on the gathered tables. -/
theorem table13 (h6 : k1_cond6 i = 1#1) (X4 : arg4.view.ty.Contents (Elt F)) (X5 : arg5.view.ty.Contents (Elt F)) (X6 : arg6.view.ty.Contents (Elt F))
    (G7 : arg7.view.ty.Contents (Elt F)) (G8 : arg8.view.ty.Contents (Elt F)) :
    arg7.view.read (Elt F) (arg7.view.writes (Elt F) G7 (pb_k1_t13 𝒱 c bd i arg1 harg1 arg2 harg2 arg3 harg3 arg4 harg4 arg5 harg5
        arg6 harg6 arg7 harg7 arg8 harg8 arg0 v4 v6 k1_pay53 bmat h6 X4 X5 X6 k1_t13_loop.trips).1)
      = midA v4 v6 (arg4.view.read (Elt F) X4) (arg5.view.read (Elt F) X5) (arg6.view.read (Elt F) X6)
    ∧ arg8.view.read (Elt F) (arg8.view.writes (Elt F) G8 (pb_k1_t13 𝒱 c bd i arg1 harg1 arg2 harg2 arg3 harg3 arg4 harg4 arg5 harg5
        arg6 harg6 arg7 harg7 arg8 harg8 arg0 v4 v6 k1_pay53 bmat h6 X4 X5 X6 k1_t13_loop.trips).2)
      = midB v4 v6 (arg4.view.read (Elt F) X4) (arg5.view.read (Elt F) X5) (arg6.view.read (Elt F) X6) := by
  have hpb (k : ℕ) (hk : k < k1_t13_loop.trips) := pb_k1_t13_succ 𝒱 c bd i arg1 harg1 arg2 harg2 arg3 harg3 arg4 harg4 arg5 harg5
        arg6 harg6 arg7 harg7 arg8 harg8 arg0 v4 v6 k1_pay53 bmat h6 X4 X5 X6 ⟨k, hk⟩
  unfold tripL_k1_t13 trip_k1_t13 at hpb
  constructor
  · refine rows_loop arg7.view G7 (fun k => (pb_k1_t13 𝒱 c bd i arg1 harg1 arg2 harg2 arg3 harg3 arg4 harg4 arg5 harg5
        arg6 harg6 arg7 harg7 arg8 harg8 arg0 v4 v6 k1_pay53 bmat h6 X4 X5 X6 k).1) _ 512 k1_t13_loop.trips rfl
      (fun k hk _ => ⟨k1_off30 ⟨k, hk⟩, k1_off30_inb i ⟨k, hk⟩ h6, _, congrArg Prod.fst (hpb k hk), k1_off30_eq ⟨k, hk⟩, fun x y h0 h1 => ?_⟩) (by decide)
    unfold midA
    rw [byTile_block 512 _ k x y h0 h1]
    simp only [readAt_rows _ _ _ (k1_off30_eq ⟨k, hk⟩)]
  · refine rows_loop arg8.view G8 (fun k => (pb_k1_t13 𝒱 c bd i arg1 harg1 arg2 harg2 arg3 harg3 arg4 harg4 arg5 harg5
        arg6 harg6 arg7 harg7 arg8 harg8 arg0 v4 v6 k1_pay53 bmat h6 X4 X5 X6 k).2) _ 512 k1_t13_loop.trips rfl
      (fun k hk _ => ⟨k1_off30 ⟨k, hk⟩, k1_off30_inb i ⟨k, hk⟩ h6, _, congrArg Prod.snd (hpb k hk), k1_off30_eq ⟨k, hk⟩, fun x y h0 h1 => ?_⟩) (by decide)
    unfold midB
    rw [byTile_block 512 _ k x y h0 h1]
    simp only [readAt_rows _ _ _ (k1_off30_eq ⟨k, hk⟩)]

/-- The scatter at the distance 16. -/
theorem table14 (h6 : k1_cond6 i = 1#1) (h : k1_cond15 i = 1#1) (X7 : arg7.view.ty.Contents (Elt F)) (X8 : arg8.view.ty.Contents (Elt F))
    (G3 : arg3.view.ty.Contents (Elt F)) :
    arg3.view.read (Elt F) (arg3.view.writes (Elt F) G3 (pb_k1_t14 𝒱 c bd i arg1 harg1 arg2 harg2 arg3 harg3 arg4 harg4 arg5 harg5
        arg6 harg6 arg7 harg7 arg8 harg8 arg0 v4 v6 k1_pay53 bmat h6 h X7 X8 k1_t14_loop.trips))
      = scatter 16 (arg7.view.read (Elt F) X7) (arg8.view.read (Elt F) X8) := by
  refine scatter_loop arg3.view G3 _ _ _ 16 k1_t14_loop.trips (by decide) rfl
    (fun k hk => ⟨k1_off32 ⟨k, hk⟩, k1_off33 ⟨k, hk⟩, k1_off32_inb i ⟨k, hk⟩ h6 h, k1_off33_inb i ⟨k, hk⟩ h6 h, _, _, ?_,
      k1_off32_eq ⟨k, hk⟩, k1_off33_eq ⟨k, hk⟩, readAt_rows arg7.view X7 (k1_off31_inb i ⟨k, hk⟩ h6 h) (k1_off31_eq ⟨k, hk⟩),
      readAt_rows arg8.view X8 (k1_off31_inb i ⟨k, hk⟩ h6 h) (k1_off31_eq ⟨k, hk⟩)⟩) (by decide)
  refine (pb_k1_t14_succ 𝒱 c bd i arg1 harg1 arg2 harg2 arg3 harg3 arg4 harg4 arg5 harg5
        arg6 harg6 arg7 harg7 arg8 harg8 arg0 v4 v6 k1_pay53 bmat h6 h X7 X8 ⟨k, hk⟩).trans ?_
  unfold tripL_k1_t14 trip_k1_t14
  rfl

/-- The scatter at the distance 32. -/
theorem table15 (h6 : k1_cond6 i = 1#1) (h : k1_cond16 i = 1#1) (X7 : arg7.view.ty.Contents (Elt F)) (X8 : arg8.view.ty.Contents (Elt F))
    (G3 : arg3.view.ty.Contents (Elt F)) :
    arg3.view.read (Elt F) (arg3.view.writes (Elt F) G3 (pb_k1_t15 𝒱 c bd i arg1 harg1 arg2 harg2 arg3 harg3 arg4 harg4 arg5 harg5
        arg6 harg6 arg7 harg7 arg8 harg8 h6 h X7 X8 k1_t15_loop.trips))
      = scatter 32 (arg7.view.read (Elt F) X7) (arg8.view.read (Elt F) X8) := by
  refine scatter_loop arg3.view G3 _ _ _ 32 k1_t15_loop.trips (by decide) rfl
    (fun k hk => ⟨k1_off35 ⟨k, hk⟩, k1_off36 ⟨k, hk⟩, k1_off35_inb i ⟨k, hk⟩ h6 h, k1_off36_inb i ⟨k, hk⟩ h6 h, _, _, ?_,
      k1_off35_eq ⟨k, hk⟩, k1_off36_eq ⟨k, hk⟩, readAt_rows arg7.view X7 (k1_off34_inb i ⟨k, hk⟩ h6 h) (k1_off34_eq ⟨k, hk⟩),
      readAt_rows arg8.view X8 (k1_off34_inb i ⟨k, hk⟩ h6 h) (k1_off34_eq ⟨k, hk⟩)⟩) (by decide)
  refine (pb_k1_t15_succ 𝒱 c bd i arg1 harg1 arg2 harg2 arg3 harg3 arg4 harg4 arg5 harg5
        arg6 harg6 arg7 harg7 arg8 harg8 h6 h X7 X8 ⟨k, hk⟩).trans ?_
  unfold tripL_k1_t15 trip_k1_t15
  rfl

/-- The scatter at the distance 64. -/
theorem table16 (h6 : k1_cond6 i = 1#1) (h : k1_cond17 i = 1#1) (X7 : arg7.view.ty.Contents (Elt F)) (X8 : arg8.view.ty.Contents (Elt F))
    (G3 : arg3.view.ty.Contents (Elt F)) :
    arg3.view.read (Elt F) (arg3.view.writes (Elt F) G3 (pb_k1_t16 𝒱 c bd i arg1 harg1 arg2 harg2 arg3 harg3 arg4 harg4 arg5 harg5
        arg6 harg6 arg7 harg7 arg8 harg8 h6 h X7 X8 k1_t16_loop.trips))
      = scatter 64 (arg7.view.read (Elt F) X7) (arg8.view.read (Elt F) X8) := by
  refine scatter_loop arg3.view G3 _ _ _ 64 k1_t16_loop.trips (by decide) rfl
    (fun k hk => ⟨k1_off38 ⟨k, hk⟩, k1_off39 ⟨k, hk⟩, k1_off38_inb i ⟨k, hk⟩ h6 h, k1_off39_inb i ⟨k, hk⟩ h6 h, _, _, ?_,
      k1_off38_eq ⟨k, hk⟩, k1_off39_eq ⟨k, hk⟩, readAt_rows arg7.view X7 (k1_off37_inb i ⟨k, hk⟩ h6 h) (k1_off37_eq ⟨k, hk⟩),
      readAt_rows arg8.view X8 (k1_off37_inb i ⟨k, hk⟩ h6 h) (k1_off37_eq ⟨k, hk⟩)⟩) (by decide)
  refine (pb_k1_t16_succ 𝒱 c bd i arg1 harg1 arg2 harg2 arg3 harg3 arg4 harg4 arg5 harg5
        arg6 harg6 arg7 harg7 arg8 harg8 h6 h X7 X8 ⟨k, hk⟩).trans ?_
  unfold tripL_k1_t16 trip_k1_t16
  rfl

/-- The scatter at the distance 128. -/
theorem table17 (h6 : k1_cond6 i = 1#1) (h : k1_cond18 i = 1#1) (X7 : arg7.view.ty.Contents (Elt F)) (X8 : arg8.view.ty.Contents (Elt F))
    (G3 : arg3.view.ty.Contents (Elt F)) :
    arg3.view.read (Elt F) (arg3.view.writes (Elt F) G3 (pb_k1_t17 𝒱 c bd i arg1 harg1 arg2 harg2 arg3 harg3 arg4 harg4 arg5 harg5
        arg6 harg6 arg7 harg7 arg8 harg8 h6 h X7 X8 k1_t17_loop.trips))
      = scatter 128 (arg7.view.read (Elt F) X7) (arg8.view.read (Elt F) X8) := by
  refine scatter_loop arg3.view G3 _ _ _ 128 k1_t17_loop.trips (by decide) rfl
    (fun k hk => ⟨k1_off41 ⟨k, hk⟩, k1_off42 ⟨k, hk⟩, k1_off41_inb i ⟨k, hk⟩ h6 h, k1_off42_inb i ⟨k, hk⟩ h6 h, _, _, ?_,
      k1_off41_eq ⟨k, hk⟩, k1_off42_eq ⟨k, hk⟩, readAt_rows arg7.view X7 (k1_off40_inb i ⟨k, hk⟩ h6 h) (k1_off40_eq ⟨k, hk⟩),
      readAt_rows arg8.view X8 (k1_off40_inb i ⟨k, hk⟩ h6 h) (k1_off40_eq ⟨k, hk⟩)⟩) (by decide)
  refine (pb_k1_t17_succ 𝒱 c bd i arg1 harg1 arg2 harg2 arg3 harg3 arg4 harg4 arg5 harg5
        arg6 harg6 arg7 harg7 arg8 harg8 h6 h X7 X8 ⟨k, hk⟩).trans ?_
  unfold tripL_k1_t17 trip_k1_t17
  rfl

/-- The scatter at the distance 256. -/
theorem table18 (h6 : k1_cond6 i = 1#1) (h : k1_cond19 i = 1#1) (X7 : arg7.view.ty.Contents (Elt F)) (X8 : arg8.view.ty.Contents (Elt F))
    (G3 : arg3.view.ty.Contents (Elt F)) :
    arg3.view.read (Elt F) (arg3.view.writes (Elt F) G3 (pb_k1_t18 𝒱 c bd i arg1 harg1 arg2 harg2 arg3 harg3 arg4 harg4 arg5 harg5
        arg6 harg6 arg7 harg7 arg8 harg8 h6 h X7 X8 k1_t18_loop.trips))
      = scatter 256 (arg7.view.read (Elt F) X7) (arg8.view.read (Elt F) X8) := by
  refine scatter_loop arg3.view G3 _ _ _ 256 k1_t18_loop.trips (by decide) rfl
    (fun k hk => ⟨k1_off44 ⟨k, hk⟩, k1_off45 ⟨k, hk⟩, k1_off44_inb i ⟨k, hk⟩ h6 h, k1_off45_inb i ⟨k, hk⟩ h6 h, _, _, ?_,
      k1_off44_eq ⟨k, hk⟩, k1_off45_eq ⟨k, hk⟩, readAt_rows arg7.view X7 (k1_off43_inb i ⟨k, hk⟩ h6 h) (k1_off43_eq ⟨k, hk⟩),
      readAt_rows arg8.view X8 (k1_off43_inb i ⟨k, hk⟩ h6 h) (k1_off43_eq ⟨k, hk⟩)⟩) (by decide)
  refine (pb_k1_t18_succ 𝒱 c bd i arg1 harg1 arg2 harg2 arg3 harg3 arg4 harg4 arg5 harg5
        arg6 harg6 arg7 harg7 arg8 harg8 h6 h X7 X8 ⟨k, hk⟩).trans ?_
  unfold tripL_k1_t18 trip_k1_t18
  rfl

/-- The scatter at the distance 512. -/
theorem table19 (h6 : k1_cond6 i = 1#1) (h : k1_cond20 i = 1#1) (X7 : arg7.view.ty.Contents (Elt F)) (X8 : arg8.view.ty.Contents (Elt F))
    (G3 : arg3.view.ty.Contents (Elt F)) :
    arg3.view.read (Elt F) (arg3.view.writes (Elt F) G3 (pb_k1_t19 𝒱 c bd i arg1 harg1 arg2 harg2 arg3 harg3 arg4 harg4 arg5 harg5
        arg6 harg6 arg7 harg7 arg8 harg8 h6 h X7 X8 k1_t19_loop.trips))
      = scatter 512 (arg7.view.read (Elt F) X7) (arg8.view.read (Elt F) X8) := by
  refine scatter_loop arg3.view G3 _ _ _ 512 k1_t19_loop.trips (by decide) rfl
    (fun k hk => ⟨k1_off47 ⟨k, hk⟩, k1_off48 ⟨k, hk⟩, k1_off47_inb i ⟨k, hk⟩ h6 h, k1_off48_inb i ⟨k, hk⟩ h6 h, _, _, ?_,
      k1_off47_eq ⟨k, hk⟩, k1_off48_eq ⟨k, hk⟩, readAt_rows arg7.view X7 (k1_off46_inb i ⟨k, hk⟩ h6 h) (k1_off46_eq ⟨k, hk⟩),
      readAt_rows arg8.view X8 (k1_off46_inb i ⟨k, hk⟩ h6 h) (k1_off46_eq ⟨k, hk⟩)⟩) (by decide)
  refine (pb_k1_t19_succ 𝒱 c bd i arg1 harg1 arg2 harg2 arg3 harg3 arg4 harg4 arg5 harg5
        arg6 harg6 arg7 harg7 arg8 harg8 h6 h X7 X8 ⟨k, hk⟩).trans ?_
  unfold tripL_k1_t19 trip_k1_t19
  rfl

/-- The scatter at the distance 1024. -/
theorem table20 (h6 : k1_cond6 i = 1#1) (h : k1_cond21 i = 1#1) (X7 : arg7.view.ty.Contents (Elt F)) (X8 : arg8.view.ty.Contents (Elt F))
    (G3 : arg3.view.ty.Contents (Elt F)) :
    arg3.view.read (Elt F) (arg3.view.writes (Elt F) G3 (pb_k1_t20 𝒱 c bd i arg1 harg1 arg2 harg2 arg3 harg3 arg4 harg4 arg5 harg5
        arg6 harg6 arg7 harg7 arg8 harg8 h6 h X7 X8 k1_t20_loop.trips))
      = scatter 1024 (arg7.view.read (Elt F) X7) (arg8.view.read (Elt F) X8) := by
  refine scatter_loop arg3.view G3 _ _ _ 1024 k1_t20_loop.trips (by decide) rfl
    (fun k hk => ⟨k1_off50 ⟨k, hk⟩, k1_off51 ⟨k, hk⟩, k1_off50_inb i ⟨k, hk⟩ h6 h, k1_off51_inb i ⟨k, hk⟩ h6 h, _, _, ?_,
      k1_off50_eq ⟨k, hk⟩, k1_off51_eq ⟨k, hk⟩, readAt_rows arg7.view X7 (k1_off49_inb i ⟨k, hk⟩ h6 h) (k1_off49_eq ⟨k, hk⟩),
      readAt_rows arg8.view X8 (k1_off49_inb i ⟨k, hk⟩ h6 h) (k1_off49_eq ⟨k, hk⟩)⟩) (by decide)
  refine (pb_k1_t20_succ 𝒱 c bd i arg1 harg1 arg2 harg2 arg3 harg3 arg4 harg4 arg5 harg5
        arg6 harg6 arg7 harg7 arg8 harg8 h6 h X7 X8 ⟨k, hk⟩).trans ?_
  unfold tripL_k1_t20 trip_k1_t20
  rfl

/-- The gather at the distance 2048, which is one copy of each half. -/
theorem table21 (h6 : k1_cond6 i = 1#1) (h : k1_cond14 i = 1#1) (X1 : arg1.view.ty.Contents (Elt F)) (X3 : arg3.view.ty.Contents (Elt F))
    (G4 : arg4.view.ty.Contents (Elt F)) (G5 : arg5.view.ty.Contents (Elt F)) (G6 : arg6.view.ty.Contents (Elt F)) :
    arg4.view.read (Elt F) (arg4.view.writes (Elt F) G4 [⟨Rect.unit (s := S2048x768) k1_off28 S2048x768.size (k1_off28_inb i h6 h),
        k1_pay43 (arg3.view.readAt (Elt F) (Rect.unit (s := S4096x768) k1_off27 S2048x768.size (k1_off27_inb i h6 h)).toLoadRect X3)⟩])
      = gatherA 2048 (arg3.view.read (Elt F) X3)
    ∧ arg5.view.read (Elt F) (arg5.view.writes (Elt F) G5 [⟨Rect.unit (s := S2048x768) k1_off28 S2048x768.size (k1_off28_inb i h6 h),
        k1_pay44 (arg3.view.readAt (Elt F) (Rect.unit (s := S4096x768) k1_off29 S2048x768.size (k1_off29_inb i h6 h)).toLoadRect X3)⟩])
      = gatherB 2048 (arg3.view.read (Elt F) X3)
    ∧ arg6.view.read (Elt F) (arg6.view.writes (Elt F) G6 [⟨Rect.unit (s := S2048x768) k1_off28 S2048x768.size (k1_off28_inb i h6 h),
        k1_pay45 (arg1.view.readAt (Elt F) (Rect.unit (s := S4096x768) k1_off27 S2048x768.size (k1_off27_inb i h6 h)).toLoadRect X1)
          (arg1.view.readAt (Elt F) (Rect.unit (s := S4096x768) k1_off29 S2048x768.size (k1_off29_inb i h6 h)).toLoadRect X1)⟩])
      = pairSums 2048 (arg1.view.read (Elt F) X1) := by
  unfold k1_pay43 k1_pay44 k1_pay45
  simp only [shapeCast_self]
  exact gather_loop arg1.view arg3.view arg4.view arg5.view arg6.view X1 X3 G4 G5 G6 FloatOps.addf
    (fun k => if k = 0 then ([], [], []) else (_, _, _)) 2048 1 (by decide) rfl
    (fun k hk => by
      obtain rfl : k = 0 := by omega
      exact ⟨k1_off28, k1_off27, k1_off29, k1_off28_inb i h6 h, k1_off27_inb i h6 h, k1_off29_inb i h6 h, k1_off28_eq, k1_off27_eq, k1_off29_eq, rfl⟩)
    (by decide)

/-- The scatter at the distance 2048. -/
theorem table22 (h6 : k1_cond6 i = 1#1) (h : k1_cond22 i = 1#1) (X7 : arg7.view.ty.Contents (Elt F)) (X8 : arg8.view.ty.Contents (Elt F))
    (G3 : arg3.view.ty.Contents (Elt F)) :
    arg3.view.read (Elt F) (arg3.view.writes (Elt F) G3
        [⟨Rect.unit (s := S4096x768) k1_off54 S2048x768.size (k1_off54_inb i h6 h),
          arg8.view.readAt (Elt F) (Rect.unit (s := S2048x768) k1_off52 S2048x768.size (k1_off52_inb i h6 h)).toLoadRect X8⟩,
         ⟨Rect.unit (s := S4096x768) k1_off53 S2048x768.size (k1_off53_inb i h6 h),
          arg7.view.readAt (Elt F) (Rect.unit (s := S2048x768) k1_off52 S2048x768.size (k1_off52_inb i h6 h)).toLoadRect X7⟩])
      = scatter 2048 (arg7.view.read (Elt F) X7) (arg8.view.read (Elt F) X8) :=
  scatter_loop arg3.view G3 (fun k => if k = 0 then [] else _) _ _ 2048 1 (by decide) rfl
    (fun k hk => by
      obtain rfl : k = 0 := by omega
      exact ⟨k1_off53, k1_off54, k1_off53_inb i h6 h, k1_off54_inb i h6 h, _, _, rfl, k1_off53_eq, k1_off54_eq,
        readAt_rows arg7.view X7 (k1_off52_inb i h6 h) k1_off52_eq, readAt_rows arg8.view X8 (k1_off52_inb i h6 h) k1_off52_eq⟩) (by decide)

end Loops

end Cert.KernelIdeal.Hand

end
-- ==== Proof.IdealRun.lean ====
/-
  One run of the stage kernel's body at a grid point: from the values, the stage's weights and the rows so far, it leaves the
  stage's rows (`run`). The branches that run depend on the grid point alone (`conds`).
-/
module

public import proofs.«01_k».proof.Proof.IdealStage
public import proofs.«01_k».proof.Proof.Gen.KernelIdeal.Launch
public import proofs.«01_k».proof.Proof.Gen.KernelIdeal.Points
public import Idealize.ShloMosaic.Lib.Tactic

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- Which branches of the body run at a grid point. -/
theorem conds : ∀ i : grid1.Coords,
    (k1_cond1 i = 1#1 ↔ (i 0).val = 0) ∧ (k1_cond2 i = 1#1 ↔ (i 0).val = 0) ∧ (k1_cond3 i = 1#1 ↔ (i 0).val = 1) ∧ (k1_cond4 i = 1#1 ↔ (i 0).val = 2)
    ∧ (k1_cond5 i = 1#1 ↔ (i 0).val = 3) ∧ (k1_cond6 i = 1#1 ↔ 4 ≤ (i 0).val) ∧ (k1_cond7 i = 1#1 ↔ (i 0).val = 4) ∧ (k1_cond8 i = 1#1 ↔ (i 0).val = 5)
    ∧ (k1_cond9 i = 1#1 ↔ (i 0).val = 6) ∧ (k1_cond10 i = 1#1 ↔ (i 0).val = 7) ∧ (k1_cond11 i = 1#1 ↔ (i 0).val = 8) ∧ (k1_cond12 i = 1#1 ↔ (i 0).val = 9)
    ∧ (k1_cond13 i = 1#1 ↔ (i 0).val = 10) ∧ (k1_cond14 i = 1#1 ↔ (i 0).val = 11) ∧ (k1_cond15 i = 1#1 ↔ (i 0).val = 4) ∧ (k1_cond16 i = 1#1 ↔ (i 0).val = 5)
    ∧ (k1_cond17 i = 1#1 ↔ (i 0).val = 6) ∧ (k1_cond18 i = 1#1 ↔ (i 0).val = 7) ∧ (k1_cond19 i = 1#1 ↔ (i 0).val = 8) ∧ (k1_cond20 i = 1#1 ↔ (i 0).val = 9)
    ∧ (k1_cond21 i = 1#1 ↔ (i 0).val = 10) ∧ (k1_cond22 i = 1#1 ↔ (i 0).val = 11) := by decide +kernel

variable (𝒱 : Variants) (c : Dev nD) (bd : Option 𝒱.V) (i : grid1.Coords) (arg1 : Memref sig .tc .vmem S4096x768 .bf16) (harg1 : arg1.IsWhole)
  (arg2 : Memref sig .tc .vmem S1x1536x768 .bf16) (harg2 : arg2.IsWhole) (arg3 : Memref sig .tc .vmem S4096x768 .bf16) (harg3 : arg3.IsWhole)
  (arg4 : Memref sig .tc .vmem S2048x768 .bf16) (harg4 : arg4.IsWhole) (arg5 : Memref sig .tc .vmem S2048x768 .bf16) (harg5 : arg5.IsWhole)
  (arg6 : Memref sig .tc .vmem S2048x768 .bf16) (harg6 : arg6.IsWhole) (arg7 : Memref sig .tc .vmem S2048x768 .bf16) (harg7 : arg7.IsWhole)
  (arg8 : Memref sig .tc .vmem S2048x768 .bf16) (harg8 : arg8.IsWhole)

/-- A buffer held whole, with the contents `f`. -/
abbrev pt (c : Dev nD) {S : Shape} {e : EltTy} (M : Memref sig .tc .vmem S e) (f : BufTy.Contents (Elt F) M.view.ty) : sProp 𝕄 :=
  M.view.loc (c : Thread nD τ) ↦[M.view.set]{fullShare} f

/-- The stage's rows, from what the gathering loop, the computing loop and the scattering loop leave. -/
theorem hi_of {st : ℕ} {Wq Wk : FVec F S768x768 .bf16} {V h r : Vec F S4096x768 .bf16} {ha hb vs ra rb : Vec F S2048x768 .bf16}
    (hg : ha = gatherA st h ∧ hb = gatherB st h ∧ vs = pairSums st V) (hm : ra = midA Wq Wk ha hb vs ∧ rb = midB Wq Wk ha hb vs)
    (hs : r = scatter st ra rb) : r = hiStage st Wq Wk V h := by
  obtain ⟨rfl, rfl, rfl⟩ := hg
  obtain ⟨rfl, rfl⟩ := hm
  exact hs

set_option maxHeartbeats 4000000 in
/-- The body at a grid point: the values and the weights are kept, and the result's buffer gets the stage's rows. -/
theorem run (E : Set ℕ) (Q : PUnit → sProp 𝕄) (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty) :
    iprop(pt c arg1 f1 ∗ pt c arg2 f2 ∗ pt c arg3 f3 ∗ pt c arg4 f4 ∗ pt c arg5 f5 ∗ pt c arg6 f6 ∗ pt c arg7 f7 ∗ pt c arg8 f8
      ∗ (iprop(pt c arg1 f1 ∗ pt c arg2 f2 ∗ ∃ g3 g4 g5 g6 g7 g8,
          pt c arg3 g3 ∗ pt c arg4 g4 ∗ pt c arg5 g5 ∗ pt c arg6 g6 ∗ pt c arg7 g7 ∗ pt c arg8 g8
          ∗ ⌜arg3.view.read (Elt F) g3 = stage (i 0).val (arg2.view.read (Elt F) f2) (arg1.view.read (Elt F) f1) (arg3.view.read (Elt F) f3)⌝) -∗ Q ⟨⟩))
    ⊢ wp frame (wpE (defs₀ (F := F)) 𝒱 (c : Thread nD τ) bd) E
        (cc1__stage_kernel i arg1 harg1 arg2 harg2 arg3 harg3 arg4 harg4 arg5 harg5 arg6 harg6 arg7 harg7 arg8 harg8) Q := by
  have hi : (i 0).val < 12 := (i 0).isLt
  obtain ⟨k1_h1, k1_h2, k1_h3, k1_h4, k1_h5, k1_h6, k1_h7, k1_h8, k1_h9, k1_h10, k1_h11, k1_h12, k1_h13, k1_h14, k1_h15, k1_h16, k1_h17, k1_h18, k1_h19, k1_h20, k1_h21, k1_h22⟩ := conds i
  generalize hn : (i 0).val = n at hi k1_h1 k1_h2 k1_h3 k1_h4 k1_h5 k1_h6 k1_h7 k1_h8 k1_h9 k1_h10 k1_h11 k1_h12 k1_h13 k1_h14 k1_h15 k1_h16 k1_h17 k1_h18 k1_h19 k1_h20 k1_h21 k1_h22
  iintro ⟨H1, H2, H3, H4, H5, H6, H7, H8, Hk⟩
  interval_cases n
  all_goals
    simp only [Nat.reduceEqDiff, Nat.reduceLeDiff, iff_false, iff_true, OfNat.ofNat_ne_zero, OfNat.zero_ne_ofNat, one_ne_zero, zero_ne_one,
      OfNat.one_ne_ofNat, OfNat.ofNat_ne_one, nonpos_iff_eq_zero, Nat.not_ofNat_le_one] at k1_h1 k1_h2 k1_h3 k1_h4 k1_h5 k1_h6 k1_h7 k1_h8 k1_h9 k1_h10 k1_h11 k1_h12 k1_h13 k1_h14 k1_h15 k1_h16 k1_h17 k1_h18 k1_h19 k1_h20 k1_h21 k1_h22
    sl_exec
    sl_step
    iapply Hk
    isplitl [H1]
    · iexact H1
    isplitl [H2]
    · iexact H2
    iexists _; iexists _; iexists _; iexists _; iexists _; iexists _
    isplitl [H3]
    · iexact H3
    isplitl [H4]
    · iexact H4
    isplitl [H5]
    · iexact H5
    isplitl [H6]
    · iexact H6
    isplitl [H7]
    · iexact H7
    isplitl [H8]
    · iexact H8
    ipureintro
  · rw [View.writes_append]
    exact (table2 𝒱 c bd i arg1 harg1 arg2 harg2 arg3 harg3 arg4 harg4 arg5 harg5 arg6 harg6 arg7 harg7 arg8 harg8 _ _ _ k1_h2 f1 _).trans
      (congrArg (loStage 1#32 511#32 _ _ _) (table1 𝒱 c bd i arg1 harg1 arg2 harg2 arg3 harg3 arg4 harg4 arg5 harg5 arg6 harg6 arg7 harg7 arg8 harg8 k1_h1 f1 f3))
  · exact table3 𝒱 c bd i arg1 harg1 arg2 harg2 arg3 harg3 arg4 harg4 arg5 harg5 arg6 harg6 arg7 harg7 arg8 harg8 _ _ _ k1_h3 f1 f3
  · exact table4 𝒱 c bd i arg1 harg1 arg2 harg2 arg3 harg3 arg4 harg4 arg5 harg5 arg6 harg6 arg7 harg7 arg8 harg8 _ _ _ k1_h4 f1 f3
  · exact table5 𝒱 c bd i arg1 harg1 arg2 harg2 arg3 harg3 arg4 harg4 arg5 harg5 arg6 harg6 arg7 harg7 arg8 harg8 _ _ k1_h5 f1 f3
  · exact hi_of (table6 𝒱 c bd i arg1 harg1 arg2 harg2 arg3 harg3 arg4 harg4 arg5 harg5 arg6 harg6 arg7 harg7 arg8 harg8 _ _ _ k1_h6 k1_h7 f1 f3 f4 f5 f6)
      (table13 𝒱 c bd i arg1 harg1 arg2 harg2 arg3 harg3 arg4 harg4 arg5 harg5 arg6 harg6 arg7 harg7 arg8 harg8 _ _ _ k1_h6 _ _ _ f7 f8)
      (table14 𝒱 c bd i arg1 harg1 arg2 harg2 arg3 harg3 arg4 harg4 arg5 harg5 arg6 harg6 arg7 harg7 arg8 harg8 _ _ _ k1_h6 k1_h15 _ _ f3)
  · exact hi_of (table7 𝒱 c bd i arg1 harg1 arg2 harg2 arg3 harg3 arg4 harg4 arg5 harg5 arg6 harg6 arg7 harg7 arg8 harg8 _ _ _ k1_h6 k1_h8 f1 f3 f4 f5 f6)
      (table13 𝒱 c bd i arg1 harg1 arg2 harg2 arg3 harg3 arg4 harg4 arg5 harg5 arg6 harg6 arg7 harg7 arg8 harg8 _ _ _ k1_h6 _ _ _ f7 f8)
      (table15 𝒱 c bd i arg1 harg1 arg2 harg2 arg3 harg3 arg4 harg4 arg5 harg5 arg6 harg6 arg7 harg7 arg8 harg8 k1_h6 k1_h16 _ _ f3)
  · exact hi_of (table8 𝒱 c bd i arg1 harg1 arg2 harg2 arg3 harg3 arg4 harg4 arg5 harg5 arg6 harg6 arg7 harg7 arg8 harg8 _ _ _ k1_h6 k1_h9 f1 f3 f4 f5 f6)
      (table13 𝒱 c bd i arg1 harg1 arg2 harg2 arg3 harg3 arg4 harg4 arg5 harg5 arg6 harg6 arg7 harg7 arg8 harg8 _ _ _ k1_h6 _ _ _ f7 f8)
      (table16 𝒱 c bd i arg1 harg1 arg2 harg2 arg3 harg3 arg4 harg4 arg5 harg5 arg6 harg6 arg7 harg7 arg8 harg8 k1_h6 k1_h17 _ _ f3)
  · exact hi_of (table9 𝒱 c bd i arg1 harg1 arg2 harg2 arg3 harg3 arg4 harg4 arg5 harg5 arg6 harg6 arg7 harg7 arg8 harg8 _ _ _ k1_h6 k1_h10 f1 f3 f4 f5 f6)
      (table13 𝒱 c bd i arg1 harg1 arg2 harg2 arg3 harg3 arg4 harg4 arg5 harg5 arg6 harg6 arg7 harg7 arg8 harg8 _ _ _ k1_h6 _ _ _ f7 f8)
      (table17 𝒱 c bd i arg1 harg1 arg2 harg2 arg3 harg3 arg4 harg4 arg5 harg5 arg6 harg6 arg7 harg7 arg8 harg8 k1_h6 k1_h18 _ _ f3)
  · exact hi_of (table10 𝒱 c bd i arg1 harg1 arg2 harg2 arg3 harg3 arg4 harg4 arg5 harg5 arg6 harg6 arg7 harg7 arg8 harg8 _ _ _ k1_h6 k1_h11 f1 f3 f4 f5 f6)
      (table13 𝒱 c bd i arg1 harg1 arg2 harg2 arg3 harg3 arg4 harg4 arg5 harg5 arg6 harg6 arg7 harg7 arg8 harg8 _ _ _ k1_h6 _ _ _ f7 f8)
      (table18 𝒱 c bd i arg1 harg1 arg2 harg2 arg3 harg3 arg4 harg4 arg5 harg5 arg6 harg6 arg7 harg7 arg8 harg8 k1_h6 k1_h19 _ _ f3)
  · exact hi_of (table11 𝒱 c bd i arg1 harg1 arg2 harg2 arg3 harg3 arg4 harg4 arg5 harg5 arg6 harg6 arg7 harg7 arg8 harg8 _ _ _ k1_h6 k1_h12 f1 f3 f4 f5 f6)
      (table13 𝒱 c bd i arg1 harg1 arg2 harg2 arg3 harg3 arg4 harg4 arg5 harg5 arg6 harg6 arg7 harg7 arg8 harg8 _ _ _ k1_h6 _ _ _ f7 f8)
      (table19 𝒱 c bd i arg1 harg1 arg2 harg2 arg3 harg3 arg4 harg4 arg5 harg5 arg6 harg6 arg7 harg7 arg8 harg8 k1_h6 k1_h20 _ _ f3)
  · exact hi_of (table12 𝒱 c bd i arg1 harg1 arg2 harg2 arg3 harg3 arg4 harg4 arg5 harg5 arg6 harg6 arg7 harg7 arg8 harg8 _ _ _ k1_h6 k1_h13 f1 f3 f4 f5 f6)
      (table13 𝒱 c bd i arg1 harg1 arg2 harg2 arg3 harg3 arg4 harg4 arg5 harg5 arg6 harg6 arg7 harg7 arg8 harg8 _ _ _ k1_h6 _ _ _ f7 f8)
      (table20 𝒱 c bd i arg1 harg1 arg2 harg2 arg3 harg3 arg4 harg4 arg5 harg5 arg6 harg6 arg7 harg7 arg8 harg8 k1_h6 k1_h21 _ _ f3)
  · exact hi_of (table21 i arg1 arg3 arg4 arg5 arg6 k1_h6 k1_h14 f1 f3 _ _ _)
      (table13 𝒱 c bd i arg1 harg1 arg2 harg2 arg3 harg3 arg4 harg4 arg5 harg5 arg6 harg6 arg7 harg7 arg8 harg8 _ _ _ k1_h6 _ _ _ f7 f8)
      (table22 i arg3 arg7 arg8 k1_h6 k1_h22 _ _ f3)

end Cert.KernelIdeal.Hand

end
-- ==== Proof.IdealRegion.lean ====
/-
  The two kernel regions of the program.

  Region 0 multiplies the input, 512 rows at a time, by the value weights. Region 1 runs the twelve stages, one per grid point:
  the rows stay in the result's buffer from one point to the next (`rowsAt`), and are written back at the last.
-/
module

public import proofs.«01_k».proof.Proof.IdealRun
public import proofs.«01_k».proof.Proof.Gen.KernelIdeal.Regions
public import Idealize.ShloMosaic.Lib.Pipeline.FrameBody
public import Idealize.ShloMosaic.Lib.Pipeline.RegionArraysS

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ (UR sig nD τ) ℕ

/-- What the buffers of core `c` hold when a region is entered. -/
abbrev Vals : Type := Dev nD → Valuation τ sig (Elt F)

variable (V : Vals (F := F))

/-! ## Region 0 -/

/-- The block of window `w` of region 0 at point `t`, as the fetch reads it. -/
abbrev blk0 (c : Dev nD) (w : Fin 3) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What region 0's body leaves in the three staging buffers at point `t`: the inputs as fetched, the product in the result's. -/
def after0 (c : Dev nD) (w : Fin 3) (t : Fin cfg0.N) : (cfg0.win w).block.Idx → Elt F (cfg0.win w).elt :=
  match w with
  | 0 => blk0 V c 0 t
  | 1 => blk0 V c 1 t
  | 2 => k0_pay1 (blk0 V c 0 t) (blk0 V c 1 t)

/-- Region 0's proof data. -/
def dat0 (c : Dev nD) : Dat τ (Elt F) Unit ℕ (UR sig nD τ) ℕ cfg0 c where
  A w := V c (Proc.devRef .tc (Pipeline.arrRef spec0 w))
  after w t := after0 V c w t
  Φ _ := Pipeline.scopedRest (Ix := Unit) (Name := ℕ) (U := UR sig nD τ) (Lvl := ℕ) (Val := Elt F) spec0 c
  q _ := fullShare
  owed _ := 0

theorem before0_0 (c : Dev nD) (t : Fin cfg0.N) (d) : (dat0 V c).before 0 t d = blk0 V c 0 t :=
  (dat0 V c).before_in_eq_fetched 0 rfl (fun _ => rfl) (fun _ _ _ => rfl) (fun _ => rfl) t d

theorem before0_1 (c : Dev nD) (t : Fin cfg0.N) (d) : (dat0 V c).before 1 t d = blk0 V c 1 t :=
  (dat0 V c).before_in_eq_fetched 1 rfl (fun _ => rfl) (fun _ _ _ => rfl) (fun _ => rfl) t d

/-- One run of region 0's body: the product of the block of the input and the weights goes to the result's buffer. -/
theorem run0 (c : Dev nD) (i : grid0.Coords) (arg1 : Memref sig .tc .vmem S512x768 .f32) (harg1 : arg1.IsWhole)
    (arg2 : Memref sig .tc .vmem S768x768 .bf16) (harg2 : arg2.IsWhole) (arg3 : Memref sig .tc .vmem S512x768 .bf16) (harg3 : arg3.IsWhole)
    (E : Set ℕ) (Q : PUnit → sProp 𝕄) (f1 : BufTy.Contents (Elt F) arg1.view.ty) (f2 : BufTy.Contents (Elt F) arg2.view.ty)
    (f3 : BufTy.Contents (Elt F) arg3.view.ty) :
    iprop(pt c arg1 f1 ∗ pt c arg2 f2 ∗ pt c arg3 f3 ∗ (iprop(pt c arg1 f1 ∗ pt c arg2 f2 ∗ ∃ g3, pt c arg3 g3
          ∗ ⌜arg3.view.read (Elt F) g3 = k0_pay1 (arg1.view.read (Elt F) f1) (arg2.view.read (Elt F) f2)⌝) -∗ Q ⟨⟩))
    ⊢ wp frame (wpE (defs₀ (F := F)) Variants.none (c : Thread nD τ) none) E (cc0__v_kernel i arg1 harg1 arg2 harg2 arg3 harg3) Q := by
  iintro ⟨H1, H2, H3, Hk⟩
  sl_exec
  sl_step
  iapply Hk
  isplitl [H1]
  · iexact H1
  isplitl [H2]
  · iexact H2
  iexists _
  isplitl [H3]
  · iexact H3
  ipureintro
  refine (read_write_all arg3.view f3 inb_S512x768_S512x768_0_0 _).trans ?_
  exact congrArg₂ k0_pay1 (readAt_all arg1.view f1 inb_S512x768_S512x768_0_0) (readAt_all arg2.view f2 inb_S768x768_S768x768_0_0)

/-- Region 0's body at every point. -/
theorem body0 (c : Dev nD) : BodyObligation (dat0 V c) (defs₀ (F := F)) Variants.none () Set.univ := fun t => by
  rw [bigSep_W0, bigSep_W0]
  rewrite [show (dat0 V c).Φ t.castSucc = (dat0 V c).Φ t.succ from rfl, show (dat0 V c).owesAt () t.castSucc = (dat0 V c).owesAt () t.succ from rfl]
  unfold owns
  iintro ⟨HΦ, Howes, ⟨%d0, %f0, %hf0, H0⟩, ⟨%d1, %f1, %hf1, H1⟩, ⟨%d2, %f2, -, H2⟩⟩
  rw [before0_0] at hf0
  rw [before0_1] at hf1
  iapply (run0 c (grid0.coords t) _ (hstage0_0 ((cfg0.slots t 0).cast nbuf0_0)) _ (hstage0_1 ((cfg0.slots t 1).cast nbuf0_1)) _ (hstage0_2 ((cfg0.slots t 2).cast nbuf0_2)) Set.univ _ f0 f1 f2)
  isplitl [H0]; · iexact H0
  isplitl [H1]; · iexact H1
  isplitl [H2]; · iexact H2
  iintro ⟨H0, H1, %g2, H2, %hg2⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  exact hg2.trans (congrArg₂ k0_pay1 hf0 hf1)

/-! ## Region 1 -/

/-- The values, as region 1 finds them. -/
abbrev vals (c : Dev nD) : Vec F S4096x768 .bf16 := V c (Proc.devRef .tc main_v2)

/-- The weights of stage `n`. -/
def weights (c : Dev nD) (n : ℕ) : Vec F S1x1536x768 .bf16 :=
  fun x => (V c (Proc.devRef .tc main_v3) : Vec F S12x1536x768 .bf16) (ix3 (Fin.ofNat 12 n) (x 1) (x 2))

/-- The rows after the first `n` stages. -/
def rowsAt (c : Dev nD) : ℕ → Vec F S4096x768 .bf16
  | 0 => vals V c
  | n + 1 => stage n (weights V c n) (vals V c) (rowsAt c n)

/-- What region 1's body leaves in the three staging buffers at point `t`: the inputs as fetched, the stage's rows in the result's. -/
def after1 (c : Dev nD) (w : Fin 3) (t : Fin cfg1.N) : (cfg1.win w).block.Idx → Elt F (cfg1.win w).elt :=
  match w with
  | 0 => ((cfg1.win 0).blk t).view.read (Elt F) (V c (Proc.devRef .tc (Pipeline.arrRef spec1 0)))
  | 1 => ((cfg1.win 1).blk t).view.read (Elt F) (V c (Proc.devRef .tc (Pipeline.arrRef spec1 1)))
  | 2 => rowsAt V c (t.val + 1)

/-- Region 1's proof data. -/
def dat1 (c : Dev nD) : Dat τ (Elt F) Unit ℕ (UR sig nD τ) ℕ cfg1 c where
  A w := V c (Proc.devRef .tc (Pipeline.arrRef spec1 w))
  after w t := after1 V c w t
  Φ _ := Pipeline.scopedRest (Ix := Unit) (Name := ℕ) (U := UR sig nD τ) (Lvl := ℕ) (Val := Elt F) spec1 c
  q _ := fullShare
  owed _ := 0

/-- The window of the values is the whole array. -/
theorem block1_0 (c : Dev nD) (t : Fin cfg1.N) :
    (((cfg1.win 0).blk t).view.read (Elt F) (V c (Proc.devRef .tc (Pipeline.arrRef spec1 0))) : Vec F S4096x768 .bf16) = vals V c := by
  funext x
  show V c (Proc.devRef .tc main_v2) _ = V c (Proc.devRef .tc main_v2) _
  congr 1
  funext a
  apply Fin.ext
  exact Pipeline.Window.rect_emb_val_of_index_zero win1_0 t a (by fin_cases a <;> rfl) x

theorem index1_1 : ∀ t : Fin cfg1.N, win1_1.index t 0 = t.val :=
  (by decide +kernel : ∀ t : Fin grid1.N, win1_1.index t 0 = t.val)

/-- The window of the weights at a point is the point's stage. -/
theorem block1_1 (c : Dev nD) (t : Fin cfg1.N) :
    (((cfg1.win 1).blk t).view.read (Elt F) (V c (Proc.devRef .tc (Pipeline.arrRef spec1 1))) : Vec F S1x1536x768 .bf16) = weights V c t.val := by
  funext x
  unfold weights
  show V c (Proc.devRef .tc main_v3) _ = V c (Proc.devRef .tc main_v3) _
  congr 1
  funext a
  apply Fin.ext
  refine (Pipeline.Window.rect_emb_val win1_1 t x a).trans ?_
  match a with
  | 0 =>
    have h0 : (x 0).val = 0 := Nat.lt_one_iff.mp (x 0).isLt
    show win1_1.index t 0 * 1 + (x 0).val = t.val % 12
    rw [index1_1, h0, Nat.mod_eq_of_lt (lt_of_lt_of_eq t.isLt N_1)]
    omega
  | 1 =>
    show 0 * 1536 + (x 1).val = (x 1).val
    omega
  | 2 =>
    show 0 * 768 + (x 2).val = (x 2).val
    omega

theorem before1_0 (c : Dev nD) (t : Fin cfg1.N) (d) : (dat1 V c).before 0 t d = vals V c :=
  ((dat1 V c).before_in_eq_fetched 0 rfl (fun _ => rfl) (fun _ _ _ => rfl) (fun _ => rfl) t d).trans (block1_0 V c t)

theorem before1_1 (c : Dev nD) (t : Fin cfg1.N) (d) : (dat1 V c).before 1 t d = weights V c t.val :=
  ((dat1 V c).before_in_eq_fetched 1 rfl (fun _ => rfl) (fun _ _ _ => rfl) (fun _ => rfl) t d).trans (block1_1 V c t)

/-- Every stage stores the result's block. -/
theorem busy1_2 : ∀ i : cfg1.grid.Coords, cfg1.idle 2 i = false :=
  (by decide +kernel : ∀ i : grid1.Coords, idle1 2 i = false)

/-- The rows when the body starts: those the point before left. -/
theorem before1_2 (c : Dev nD) (t : Fin cfg1.N) (ht : t.val ≠ 0) (d) : (dat1 V c).before 2 t d = rowsAt V c t.val := by
  have hN : t.val < 12 := lt_of_lt_of_eq t.isLt N_1
  refine ((dat1 V c).before_out_kept 2 rfl t ht ?_ busy1_2 (fun _ _ => rfl) d).trans ?_
  · rw [← Bool.not_eq_true, flush1_2]
    show ¬ (t.val - 1) % 12 = 11
    omega
  · show rowsAt V c (t.val - 1 + 1) = _
    rw [Nat.sub_add_cancel (Nat.pos_of_ne_zero ht)]

/-- A stage from the rows it finds: the first stage finds anything. -/
theorem stage_before (c : Dev nD) (t : Fin cfg1.N) (d) :
    stage t.val (weights V c t.val) (vals V c) ((dat1 V c).before 2 t d) = rowsAt V c (t.val + 1) := by
  by_cases ht : t.val = 0
  · rw [ht]
    rfl
  · rw [before1_2 V c t ht]
    rfl

/-- A whole buffer as the body names it, and as the pipeline does. -/
theorem pt_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

theorem pt_in (c : Dev nD) (b : Ref sig .tc) (f : Buf (Elt F) ((c : Thread nD τ).loc b)) :
    (((c : Thread nD τ).loc b) ↦{fullShare} f : sProp 𝕄) ⊢ (Memref.whole b).view.loc (c : Thread nD τ) ↦[(Memref.whole b).view.set]{fullShare} f := by
  rw [pt_whole]

theorem pt_out (c : Dev nD) (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := by
  rw [pt_whole]

theorem stage_congr {n n' : ℕ} {W W' : Vec F S1x1536x768 .bf16} {v v' h h' : Vec F S4096x768 .bf16} (hn : n = n') (hW : W = W') (hv : v = v') (hh : h = h') :
    stage n W v h = stage n' W' v' h' := by
  subst hn hW hv hh
  rfl

theorem coords1 : ∀ t : Fin grid1.N, (grid1.coords t 0).val = t.val := by decide +kernel

/-- Region 1's body at every point. -/
theorem body1 (c : Dev nD) : BodyObligation (dat1 V c) (defs₀ (F := F)) Variants.none () Set.univ := fun t => by
  rw [bigSep_W1, bigSep_W1]
  rewrite [busy1_2]
  unfold owns
  rw [show (dat1 V c).Φ t.castSucc = _ from scopedRest1_eq c, show (dat1 V c).Φ t.succ = _ from scopedRest1_eq c]
  iintro ⟨⟨Ha, Hb, Hc, Hd, He, ⟨%f4, H4⟩, ⟨%f5, H5⟩, ⟨%f6, H6⟩, ⟨%f7, H7⟩, ⟨%f8, H8⟩⟩, Howes, ⟨%d0, %f0, %hf0, H0⟩, ⟨%d1, %f1, %hf1, H1⟩, ⟨%d2, %f2, %hf2, H2⟩⟩
  rw [before1_0] at hf0
  rw [before1_1] at hf1
  iapply (run Variants.none c none (grid1.coords t) _ (hstage1_0 ((cfg1.slots t 0).cast nbuf1_0)) _ (hstage1_1 ((cfg1.slots t 1).cast nbuf1_1)) _ (hstage1_2 ((cfg1.slots t 2).cast nbuf1_2)) (Memref.whole cc1_scratch0) (Memref.isWhole_whole _) (Memref.whole cc1_scratch1) (Memref.isWhole_whole _)
    (Memref.whole cc1_scratch2) (Memref.isWhole_whole _) (Memref.whole cc1_scratch3) (Memref.isWhole_whole _) (Memref.whole cc1_scratch4) (Memref.isWhole_whole _)
    Set.univ _ f0 f1 f2 f4 f5 f6 f7 f8)
  isplitl [H0]; · iexact H0
  isplitl [H1]; · iexact H1
  isplitl [H2]; · iexact H2
  isplitl [H4]; · iapply (pt_in c cc1_scratch0 f4); iexact H4
  isplitl [H5]; · iapply (pt_in c cc1_scratch1 f5); iexact H5
  isplitl [H6]; · iapply (pt_in c cc1_scratch2 f6); iexact H6
  isplitl [H7]; · iapply (pt_in c cc1_scratch3 f7); iexact H7
  isplitl [H8]; · iapply (pt_in c cc1_scratch4 f8); iexact H8
  iintro ⟨H0, H1, %g2, %g4, %g5, %g6, %g7, %g8, H2, H4, H5, H6, H7, H8, %hg⟩
  isplitl [Ha Hb Hc Hd He H4 H5 H6 H7 H8]
  · isplitl [Ha]; · iexact Ha
    isplitl [Hb]; · iexact Hb
    isplitl [Hc]; · iexact Hc
    isplitl [Hd]; · iexact Hd
    isplitl [He]; · iexact He
    isplitl [H4]; · iexists g4; iapply (pt_out c cc1_scratch0 g4); iexact H4
    isplitl [H5]; · iexists g5; iapply (pt_out c cc1_scratch1 g5); iexact H5
    isplitl [H6]; · iexists g6; iapply (pt_out c cc1_scratch2 g6); iexact H6
    isplitl [H7]; · iexists g7; iapply (pt_out c cc1_scratch3 g7); iexact H7
    iexists g8; iapply (pt_out c cc1_scratch4 g8); iexact H8
  isplitl [Howes]; · iexact Howes
  isplitl [H0]; · iexists _; isplitr; swap; (· iexact H0); ipureintro; exact hf0.trans (block1_0 V c t).symm
  isplitl [H1]; · iexists _; isplitr; swap; (· iexact H1); ipureintro; exact hf1.trans (block1_1 V c t).symm
  iexists _; isplitr; swap; (· iexact H2); ipureintro
  exact hg.trans ((stage_congr (coords1 t) hf1 hf0 hf2).trans (stage_before V c t d2))

end Cert.KernelIdeal.Hand

end
-- ==== Proof.IdealWhole.lean ====
/-
  The whole program: the two regions' records for the launch, and what every buffer holds when the program ends.
-/
module

public import proofs.«01_k».proof.Proof.IdealRegion
public import Idealize.ShloMosaic.Lib.Pipeline.FrameTail

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]
local notation "𝕄" => MT nD τ sig Unit (Elt F) ℕ (UR sig nD τ) ℕ

/-- No level is assigned: nothing waits on another core. -/
abbrev L₀ : GSem nD τ sig → Finset Unit := fun _ => ∅
abbrev lv₀ : GSem nD τ sig → Unit → ℕ := fun _ _ => 0

/-- What rides along beside the buffers: the core owes nothing. -/
abbrev rest (c : Dev nD) : sProp 𝕄 := iprop(∃ W, owes (c.tc : Thread nD τ) (0 : CellTallies nD τ sig Unit) W)

set_option backward.isDefEq.respectTransparency.types false in
/-- A region's record for the launch, from the obligation on its body: entered from the buffers at `V`, left with the arrays as the
    pipeline wrote them. -/
def regionOf (pdats : (p : Fin 2) → (c : Dev nD) → Dat τ (Elt F) Unit ℕ (UR sig nD τ) ℕ (cfgs p) c) (p : Fin 2)
    (kit : Pipeline.LaunchFacts (nD := nD) (τ := τ) cfgs p)
    (hbody : ∀ c, BodyObligation (pdats p c) (defs₀ (F := F)) Variants.none () Set.univ)
    (hshare : ∀ c w, (pdats p c).share w = fullShare) (howed : ∀ c t, (pdats p c).owed t = 0)
    (hrec : ∀ c, (pdats p c).recorded 0 = Set.univ)
    (hΦ : ∀ c t, (pdats p c).Φ t = Pipeline.scopedRest (Ix := Unit) (Name := ℕ) (U := UR sig nD τ) (Lvl := ℕ) (Val := Elt F) (cfgs p).spec c)
    (V : Vals (F := F)) (hA : ∀ c w, (pdats p c).A w = V c (Proc.devRef .tc (Pipeline.arrRef (cfgs p).spec w))) :
    RegionSeg (pcfgs (F := F)) adm pdats () defs₀ Variants.none L₀ lv₀ p :=
  have kitP : Pipeline.PLaunchFacts (nD := nD) (τ := τ) (pcfgs (F := F)) p := kit.toP
  { win := kitP.win.to₀
    block_pos := kitP.block_pos
    stage_whole := kitP.stage_whole
    K := PEmpty
    osem := fun k => k.elim
    ho := Pipeline.OwnSemFacts.none _
    hbody := fun c => (hbody c).loose
    hwaits := Pipeline.hwaits_of_owed_zero pcfgs adm pdats () L₀ lv₀ p howed
    pre := fun c => iprop(StableHlo.held (c.tc : Thread nD τ) (Pipeline.ucRefs τ sig) (V c) ∗ rest c)
    post := fun c => iprop(StableHlo.held (c.tc : Thread nD τ) (Pipeline.ucRefs τ sig) (Pipeline.afterRegion (pdats p c) (V c)) ∗ rest c)
    X := fun _ => iprop(emp)
    Y := fun _ => iprop(emp)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c.tc : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm]
      have hsplit := Pipeline.arrays_of_unscopedBufs (p := p) pcfgs adm pdats kitP.win kitP.arr_whole c (hshare c)
        (fun b => V c (Proc.devRef .tc b)) (fun w => hA c w)
      iintro ⟨⟨Hub, %W, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        iexists W; isplitr; · ipureintro; exact fun _ _ => Or.inl (hrec c ▸ Set.mem_univ _)
        iexact HO
      isplitr; · iempintro
      iexact Hrest
    hin := fun c => by
      rw [hΦ]
      iintro ⟨-, -, Hr⟩
      iexact Hr
    hout := fun c => by
      rw [hΦ, Pipeline.ownSems0_none]
      iintro Hr
      isplitr; · iempintro
      isplitr; · iempintro
      iexact Hr
    hexit := fun c => by
      have hjoin := Pipeline.unscopedBufs_of_arrays (p := p) pcfgs adm (Ix := Unit) (Name := ℕ) (U := UR sig nD τ) (Lvl := ℕ)
        kitP.win kitP.arr_whole c pdats (hshare c)
        (fun b => V c (Proc.devRef .tc b)) (fun b => Pipeline.afterRegion (pdats p c) (V c) (Proc.devRef .tc b)) ((pdats p c).arrAt · (cfgs p).N)
        (fun w => (Pipeline.afterRegion_arr (pdats p c) (V c) kit.win.arr_inj w).symm)
        (fun b hb => Pipeline.afterRegion_of_not_arr (pdats p c) (V c)
          fun w h => hb (h ▸ Finset.mem_image.mpr ⟨w, Finset.mem_univ _, rfl⟩))
      rw [show StableHlo.held (c.tc : Thread nD τ) (Pipeline.ucRefs τ sig) (Pipeline.afterRegion (pdats p c) (V c))
          = unscopedBufs c (fun b => Pipeline.afterRegion (pdats p c) (V c) (Proc.devRef .tc b))
          from (Pipeline.unscopedBufs_held (Ix := Unit) (Name := ℕ) (U := UR sig nD τ) (Lvl := ℕ) c (Pipeline.afterRegion (pdats p c) (V c))).symm]
      iintro ⟨Ha, HO, -, Hrest⟩
      imodintro
      isplitl [Ha Hrest]
      · iapply hjoin; isplitl [Ha] <;> iassumption
      unfold Dat.owesAt Pipeline.owesWithin
      rw [howed c (Fin.last _)]
      icases HO with ⟨%W, -, HO⟩; iexists W; iexact HO }

variable (m : (ℓ : Loc nD τ sig) → Buf (Elt F) ℓ)

/-- What region 0 leaves. -/
def outsA : Outs (F := F) := fun _ r c => Pipeline.afterRegion (dat0 (V1 m) c) (V1 m c) (Proc.devRef .tc r)

/-- What each region leaves. -/
def outs : Outs (F := F) := fun J r c =>
  match J with
  | 2 => outsA m 2 r c
  | _ => Pipeline.afterRegion (dat1 (V3 m (outsA m)) c) (V3 m (outsA m) c) (Proc.devRef .tc r)

/-- The proof data of both regions. -/
def pdats : (p : Fin 2) → (c : Dev nD) → Dat τ (Elt F) Unit ℕ (UR sig nD τ) ℕ (cfgs p) c
  | 0 => fun c => dat0 (V1 m) c
  | 1 => fun c => dat1 (V3 m (outsA m)) c

theorem V2_held (c : Dev nD) : ∀ b ∈ Pipeline.ucRefs τ sig, Pipeline.afterRegion (dat0 (V1 m) c) (V1 m c) b = V2 m (outs m) c b := by
  intro b hb
  obtain ⟨r, rfl⟩ : ∃ r : Ref sig .tc, b = Proc.devRef .tc r := by
    obtain ⟨r, -, h⟩ := Finset.mem_map.mp (Finset.mem_filter.mp hb).1
    exact ⟨r, h.symm⟩
  by_cases hr : r = main_v2
  · subst hr
    exact (Function.update_self (Proc.devRef .tc main_v2) _ (V1 m c)).symm
  · refine (Pipeline.afterRegion_keeps (dat0 (V1 m) c) (V1 m c) launch0.win.arr_inj (fun _ => rfl) r ?_).trans
      (Function.update_of_ne (fun h => hr (Proc.devRef_injective _ h)) _ _).symm
    intro w hw
    match w with
    | 0 => rfl
    | 1 => rfl
    | 2 => exact absurd hw.symm hr

theorem V4_held (c : Dev nD) : ∀ b ∈ Pipeline.ucRefs τ sig,
    Pipeline.afterRegion (dat1 (V3 m (outsA m)) c) (V3 m (outsA m) c) b = V4 m (outs m) c b := by
  intro b hb
  obtain ⟨r, rfl⟩ : ∃ r : Ref sig .tc, b = Proc.devRef .tc r := by
    obtain ⟨r, -, h⟩ := Finset.mem_map.mp (Finset.mem_filter.mp hb).1
    exact ⟨r, h.symm⟩
  by_cases hr : r = main_v4
  · subst hr
    exact (Function.update_self (Proc.devRef .tc main_v4) _ (V3 m (outs m) c)).symm
  · refine (Pipeline.afterRegion_keeps (dat1 (V3 m (outsA m)) c) (V3 m (outsA m) c) launch1.win.arr_inj (fun _ => rfl) r ?_).trans
      (Function.update_of_ne (fun h => hr (Proc.devRef_injective _ h)) _ _).symm
    intro w hw
    match w with
    | 0 => rfl
    | 1 => rfl
    | 2 => exact absurd hw.symm hr

/-- Region 0's record. -/
def reg0 : RegionSeg (pcfgs (F := F)) adm (pdats m) () defs₀ Variants.none L₀ lv₀ 0 :=
  regionOf (pdats m) 0 launch0 (fun c => body0 (V1 m) c) (fun _ _ => ite_self _) (fun _ _ => rfl) (fun _ => rfl) (fun _ _ => rfl) (V1 m) (fun _ _ => rfl)

/-- Region 1's record. -/
def reg1 : RegionSeg (pcfgs (F := F)) adm (pdats m) () defs₀ Variants.none L₀ lv₀ 1 :=
  regionOf (pdats m) 1 launch1 (fun c => body1 (V3 m (outsA m)) c) (fun _ _ => ite_self _) (fun _ _ => rfl) (fun _ => rfl) (fun _ _ => rfl) (V3 m (outsA m)) (fun _ _ => rfl)

theorem pre0 (c : Dev nD) :
    iprop(StableHlo.held (c : Thread nD τ) (Pipeline.ucRefs τ sig) (V1 m c) ∗ rest c) ⊢ (reg0 m).pre c := .rfl

theorem post0 (c : Dev nD) :
    (reg0 m).post c ⊢ iprop(StableHlo.held (c : Thread nD τ) (Pipeline.ucRefs τ sig) (V2 m (outs m) c) ∗ rest c) := by
  rw [← StableHlo.held_congr (c.tc : Thread nD τ) (V2_held m c)]
  exact .rfl

theorem pre1 (c : Dev nD) :
    iprop(StableHlo.held (c : Thread nD τ) (Pipeline.ucRefs τ sig) (V3 m (outs m) c) ∗ rest c) ⊢ (reg1 m).pre c := by
  rw [show V3 m (outs m) c = V3 m (outsA m) c from rfl]
  exact .rfl

theorem post1 (c : Dev nD) :
    (reg1 m).post c ⊢ iprop(StableHlo.held (c : Thread nD τ) (Pipeline.ucRefs τ sig) (V4 m (outs m) c) ∗ rest c) := by
  rw [← StableHlo.held_congr (c.tc : Thread nD τ) (V4_held m c)]
  exact .rfl

set_option backward.isDefEq.respectTransparency.types false in
/-- Every run of the program from memory `m` ends with every unscoped buffer at the last valuation, every counter at zero. -/
theorem run_all (ρ : Dev nD → PrngReg) :
    θ_run defs (onTc (τ := τ) (main (F := F))) ⟨m, fun _ => 0, ρ⟩ (fun r => (∀ c : Dev nD, ∀ b ∈ Pipeline.ucRefs τ sig,
      r.2.mem ((c.tc : Thread nD τ).1, b) = V5 m (outs m) c b) ∧ r.2.sem = fun _ => 0) := by
  refine Pipeline.θ_run_regions_kit_dev_sems (pcfgs (F := F)) adm (pdats m) () cellOf_inj emb₁ defs₀ Variants.none L₀ lv₀ m ρ main
    (segs m (outs m) Variants.none L₀ lv₀ (fun _ c => rest c) () (pdats m) (reg0 m) (reg1 m))
    (fun c Q => by
      rewrite [main_chain c, Pipeline.Seg.run_eq_chain,
        show (segs m (outs m) Variants.none L₀ lv₀ (fun _ c => rest c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, pre0 m c, post0 m c, pre1 m c, post1 m c, .rfl⟩)
    (hinit := ?_)
    (QY := fun c s => ∀ b ∈ Pipeline.ucRefs τ sig, s.mem ((c.tc : Thread nD τ).1, b) = V5 m (outs m) c b)
    (hfin := fun c s' => ?_) (hQ := fun _ h hz => ⟨h, funext fun g => hz g (.inr (regions_no_unscoped g.2))⟩)
  · refine Pipeline.initEach L₀ lv₀ fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c.tc : Thread nD τ).1, b)) (V5 m (outs m) c) s') $$ [Hh HSI]
    · isplitl [Hh] <;> iassumption
    imodintro; iexact Hr

theorem mem_uc {r : Ref sig .tc} (h : r.isScoped = false) : (Proc.devRef .tc r : DevRef τ sig) ∈ Pipeline.ucRefs τ sig := Pipeline.devRef_mem_ucRefs h

/-- The frame: every argument ends as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs (onTc (τ := τ) (main (F := F))) ⟨m, fun _ => 0, ρ⟩).mono (fun _ h => ⟨fun c =>
    ⟨(h.1 c _ (mem_uc (r := main_arg0) rfl)).trans (V5_main_arg0 m (outs m) c),
     (h.1 c _ (mem_uc (r := main_arg1) rfl)).trans (V5_main_arg1 m (outs m) c),
     (h.1 c _ (mem_uc (r := main_arg2) rfl)).trans (V5_main_arg2 m (outs m) c)⟩, h.2⟩) (run_all m ρ)

end Cert.KernelIdeal.Hand

end
-- ==== Proof.Model.lean ====
/-
  The problem's mathematics over the real numbers: the projections, the heads' dot products, the softmax over a pair of rows, one
  stage, and the twelve stages one after the other; and the identities by which the kernel's and the reference's forms of it meet.
-/
module

public import Idealize.ShloMosaic.PureOps.Ideal
public import Mathlib.Tactic.FieldSimp
public import Mathlib.Tactic.Positivity
public import Idealize.ShloMosaic.Lib.Pointwise

@[expose] public section

noncomputable section

namespace Cert.Math

/-- A table of real numbers with rows of 768 entries. -/
abbrev Rows := ℕ → Fin 768 → ℝ

/-- The rows of `h` times the rows of the matrix `W` from row `o` on: entry `(r, d)` is the dot product of row `r` with row `o + d`. -/
def proj (W : Rows) (o : ℕ) (h : Rows) : Rows := fun r d => ∑ j, h r j * W (o + d.val) j

/-- Column `e` of head `g`. -/
def col (g : Fin 12) (e : Fin 64) : Fin 768 := ⟨64 * g.val + e.val, by omega⟩

/-- The head that column `d` belongs to. -/
def head (d : Fin 768) : Fin 12 := ⟨d.val / 64, by omega⟩

/-- The scaled dot product over the columns of head `g` of a query row and a key row. -/
def dotHead (q k : Fin 768 → ℝ) (g : Fin 12) : ℝ := (∑ e : Fin 64, q (col g e) * k (col g e)) * (1 / 8)

/-- The logistic function. -/
def logi (x : ℝ) : ℝ := (1 + Real.exp (-x))⁻¹

/-- Whether row `r` is the first row of its pair, at the distance `2 ^ n`. -/
abbrev isFirst (n r : ℕ) : Prop := r / 2 ^ n % 2 = 0

/-- The first row of the pair of row `r`. -/
def first (n r : ℕ) : ℕ := r - r / 2 ^ n % 2 * 2 ^ n

/-- The second row of the pair of row `r`. -/
def second (n r : ℕ) : ℕ := first n r + 2 ^ n

/-- The weight of row `r` in head `g`: the softmax over the pair's two scores, at the row's own place in the pair. -/
def weight (n : ℕ) (q k : Rows) (r : ℕ) (g : Fin 12) : ℝ :=
  if isFirst n r then logi (dotHead (q (first n r)) (k (first n r)) g - dotHead (q (first n r)) (k (second n r)) g)
  else logi (dotHead (q (first n r)) (k (second n r)) g - dotHead (q (first n r)) (k (first n r)) g)

/-- One stage over the real numbers. -/
def mix (n : ℕ) (W v h : Rows) : Rows := fun r d =>
  weight n (proj W 0 h) (proj W 768 h) r (head d) * (v (first n r) d + v (second n r) d)

/-- The stages one after the other, from the values. -/
def mixes (W : ℕ → Rows) (v : Rows) : ℕ → Rows
  | 0 => v
  | n + 1 => mix n (W n) v (mixes W v n)

/-- A finite sum of real numbers, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A sum of products of real numbers, read in the extended reals. -/
theorem coe_dot {ι : Type} [Fintype ι] (f g : ι → ℝ) :
    (∑ i, ((f i : ℝ) : EReal) * ((g i : ℝ) : EReal)) = ((∑ i, f i * g i : ℝ) : EReal) := by
  rw [← coe_sum]
  exact Finset.sum_congr rfl fun i _ => (EReal.coe_mul _ _).symm

/-- The 768 columns are the 12 heads' 64 columns each. -/
theorem sum_heads (f : Fin 768 → ℝ) : ∑ d, f d = ∑ g : Fin 12, ∑ e : Fin 64, f (col g e) := by
  rw [← Fintype.sum_prod_type']
  refine (Fintype.sum_equiv (finProdFinEquiv (m := 12) (n := 64)) _ _ fun p => ?_).symm
  exact congrArg f (Fin.ext (by simp [col, finProdFinEquiv]; omega))

/-- A head's column belongs to that head. -/
theorem head_col (g : Fin 12) (e : Fin 64) : head (col g e) = g := Fin.ext (by simp only [head, col]; omega)

/-- Against the matrix of 1/8 on each head's own columns, a row of products sums to its heads' dot products. -/
theorem sum_smat (q k : Fin 768 → ℝ) (g : Fin 12) :
    ∑ d, (q d * k d) * (if head d = g then 1 / 8 else 0) = dotHead q k g := by
  rw [sum_heads, Finset.sum_eq_single g]
  · simp only [head_col, if_true, dotHead, Finset.sum_mul]
  · intro b _ hb
    simp only [head_col, if_neg hb, mul_zero, Finset.sum_const_zero]
  · intro h; exact absurd (Finset.mem_univ g) h

/-- Against the matrix of ones at each column's own head, the heads' weights spread over the columns. -/
theorem sum_bmat (w : Fin 12 → ℝ) (d : Fin 768) : ∑ g, w g * (if head d = g then 1 else 0) = w (head d) := by
  simp

/-- The two weights of a pair sum to one. -/
theorem logi_neg (x : ℝ) : 1 - logi x = logi (-x) := by
  have h : 0 < Real.exp (-x) := Real.exp_pos _
  unfold logi
  rw [neg_neg, show Real.exp x = (Real.exp (-x))⁻¹ by rw [Real.exp_neg, inv_inv]]
  field_simp
  ring

/-- The softmax of two numbers, each shifted by `M`, at the first. -/
theorem softmax_two (x y M : ℝ) : Real.exp (x - M) / (Real.exp (x - M) + Real.exp (y - M)) = logi (x - y) := by
  unfold logi
  have h := Real.exp_pos (x - M)
  rw [show Real.exp (y - M) = Real.exp (x - M) * Real.exp (-(x - y)) by rw [← Real.exp_add]; congr 1; ring,
    show Real.exp (x - M) + Real.exp (x - M) * Real.exp (-(x - y)) = Real.exp (x - M) * (1 + Real.exp (-(x - y))) by ring]
  have h' : 0 < 1 + Real.exp (-(x - y)) := by positivity
  field_simp

/-! ## The two rows of a pair -/

/-- A first row is the first row of its own pair. -/
theorem first_of {n r : ℕ} (h : isFirst n r) : first n r = r := by
  unfold first
  rw [show r / 2 ^ n % 2 = 0 from h, Nat.zero_mul, Nat.sub_zero]

/-- A second row has at least the stage's distance before it. -/
theorem pow_le_of {n r : ℕ} (h : ¬isFirst n r) : 2 ^ n ≤ r := by
  by_contra hlt
  exact h (by rw [isFirst, Nat.div_eq_of_lt (not_le.1 hlt)])

/-- The first row of a second row's pair lies the stage's distance before it. -/
theorem first_of_not {n r : ℕ} (h : ¬isFirst n r) : first n r = r - 2 ^ n := by
  unfold first
  rw [show r / 2 ^ n % 2 = 1 by unfold isFirst at h; omega, Nat.one_mul]

/-- A second row is the second row of its own pair. -/
theorem second_of_not {n r : ℕ} (h : ¬isFirst n r) : second n r = r := by
  unfold second
  rw [first_of_not h, Nat.sub_add_cancel (pow_le_of h)]

/-- The second row of a first row's pair lies the stage's distance behind it. -/
theorem second_of {n r : ℕ} (h : isFirst n r) : second n r = r + 2 ^ n := by
  unfold second
  rw [first_of h]

/-- The row after the first at the distance of the stage is a second row. -/
theorem not_isFirst_add {n r : ℕ} (h : isFirst n r) : ¬isFirst n (r + 2 ^ n) := by
  unfold isFirst at h ⊢
  rw [Nat.add_div_right _ (Nat.two_pow_pos n)]
  omega

/-- The row before a second row at the distance of the stage is a first row. -/
theorem isFirst_sub {n r : ℕ} (h : ¬isFirst n r) : isFirst n (r - 2 ^ n) := by
  by_contra h'
  have := pow_le_of h
  unfold isFirst at h h'
  have e : r / 2 ^ n = (r - 2 ^ n) / 2 ^ n + 1 := by
    rw [← Nat.add_div_right _ (Nat.two_pow_pos n), Nat.sub_add_cancel this]
  omega

/-- A stage does not mix the rows of one block of 512 with another's. -/
theorem mix_shift {n : ℕ} (hn : n < 9) (W v h : Rows) (k r : ℕ) (d : Fin 768) :
    mix n W (fun x => v (512 * k + x)) (fun x => h (512 * k + x)) r d = mix n W v h (512 * k + r) d := by
  have e : (512 * k + r) / 2 ^ n % 2 = r / 2 ^ n % 2 := by
    interval_cases n <;> omega
  have hf : first n (512 * k + r) = 512 * k + first n r := by
    unfold first
    rw [e]
    have : r / 2 ^ n % 2 * 2 ^ n ≤ r := by
      by_cases h : isFirst n r
      · rw [show r / 2 ^ n % 2 = 0 from h, Nat.zero_mul]; exact Nat.zero_le _
      · rw [show r / 2 ^ n % 2 = 1 by unfold isFirst at h; omega, Nat.one_mul]; exact pow_le_of h
    omega
  have hs : second n (512 * k + r) = 512 * k + second n r := by
    unfold second
    rw [hf, Nat.add_assoc]
  unfold mix weight isFirst
  rw [e, hf, hs]
  rfl

end Cert.Math

end
-- ==== Proof.ValueStage.lean ====
/-
  What one stage of the kernel computes, over the real numbers: the stages below 16 rows, tile by tile, and those above, by gather and
  scatter, are both the stage of `Model`.
-/
module

public import proofs.«01_k».proof.Proof.IdealStage
public import proofs.«01_k».proof.Proof.Model

@[expose] public section
set_option maxRecDepth 16384
noncomputable section
namespace Cert.KernelIdeal.Hand
open Cert.KernelIdeal Cert.KernelIdeal.Gen Cert.Rows Cert.Math
open Idealize.ShloMosaic Idealize.ShloMosaic.TcCoe Idealize.ShloMosaic.Tactic

/-- The word of the scale is 1/8. -/
theorem ofBits_eighth : Ideal.ofBits .f32 1040187392#32 = ((1 / 8 : ℝ) : EReal) := by
  simp [Ideal.ofBits, Ideal.ieee, -EReal.coe_mul]; norm_num

/-- The column's number divided by 64, as the program computes it in words. -/
theorem head_word : ∀ x : Fin 768, (Scalar.select
          (IntOp.andi
            (IntOp.cmpi CmpIPredicate.ne
              (IntOp.subi (BitVec.setWidth 32 (IntOp.cmpi CmpIPredicate.sgt (BitVec.ofNat 32 x.val) 0#32))
                (BitVec.setWidth 32 (IntOp.cmpi CmpIPredicate.slt (BitVec.ofNat 32 x.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 x.val) 64#32) 0#32))
          (IntOp.subi (IntOp.divsi ArithUnit.vector (BitVec.ofNat 32 x.val) 64#32) 1#32)
          (IntOp.divsi ArithUnit.vector (BitVec.ofNat 32 x.val) 64#32) : BitVec 32) = BitVec.ofNat 32 (x.val / 64) := by
  decide +kernel

/-- Two heads' words compare equal if the heads are one. -/
theorem eq_word : ∀ a b : Fin 12, IntOp.cmpi CmpIPredicate.eq (BitVec.ofNat 32 a.val) (BitVec.ofNat 32 b.val) = if a = b then 1#1 else 0#1 := by
  decide +kernel

/-- The matrix that sums a row's products by heads: 1/8 on each head's own columns. -/
theorem smat_at (d : Fin 768) (g : Fin 12) : k1_pay53 (F := Ideal) (ix2 d g) = ((if head d = g then 1 / 8 else 0 : ℝ) : EReal) := by
  pointwise [k1_pay53]
  rw [head_word d, show d.val / 64 = (head d).val from rfl, eq_word, ofBits_eighth]
  by_cases h : head d = g
  · simp only [h, if_true]; rfl
  · simp only [h, if_false]; rfl

/-- The matrix that spreads the heads' weights over the columns: one at each column's own head. -/
theorem bmat_at (d : Fin 768) (g : Fin 12) : bmat (F := Ideal) (ix2 g d) = ((if head d = g then 1 else 0 : ℝ) : EReal) := by
  pointwise [bmat, k1_pay54]
  rw [head_word d, show d.val / 64 = (head d).val from rfl, eq_word]
  by_cases h : head d = g
  · simp only [h, if_true]; rfl
  · simp only [h, Ne.symm h, if_false]; rfl

/-- The test of a row's bit, in words. -/
theorem bit_word : ∀ n : Fin 4, ∀ x : Fin 512, IntOp.cmpi CmpIPredicate.ne (IntOp.andi (BitVec.ofNat 32 x.val) (BitVec.ofNat 32 (2 ^ n.val))) 0#32
    = if isFirst n.val x.val then 0#1 else 1#1 := by
  decide +kernel

/-- A selection by a row's bit is a selection by its place in the pair. -/
theorem sel_bit {α : Type} {n x : ℕ} (hn : n < 4) (hx : x < 512) (a b : α) :
    Scalar.select (IntOp.cmpi CmpIPredicate.ne (IntOp.andi (BitVec.ofNat 32 x) (BitVec.ofNat 32 (2 ^ n))) 0#32) a b
      = if isFirst n x then b else a := by
  rw [bit_word ⟨n, hn⟩ ⟨x, hx⟩]
  by_cases h : isFirst n x
  · rw [if_pos h, if_pos h]; rfl
  · rw [if_neg h, if_neg h]; rfl

/-- The table `T` holds the real numbers `t`. -/
def Holds {R : ℕ} (T : (⟨2, ![R, 768]⟩ : Shape).Idx → EReal) (t : Rows) : Prop := ∀ x d, T (ix2 x d) = ((t x.val d : ℝ) : EReal)

/-- A table's entry, of a row given by its number. -/
theorem Holds.row {R : ℕ} [NeZero R] {T : (⟨2, ![R, 768]⟩ : Shape).Idx → EReal} {t : Rows} (h : Holds T t) {r : ℕ} (hr : r < R) (d : Fin 768) :
    row T r d = ((t r d : ℝ) : EReal) := by
  show T (ix2 (Fin.ofNat R r) d) = _
  rw [h, show (Fin.ofNat R r).val = r from Nat.mod_eq_of_lt hr]

/-- A block of rows of a table holds the numbers of those rows. -/
theorem Holds.blk {R : ℕ} [NeZero R] {T : (⟨2, ![R, 768]⟩ : Shape).Idx → EReal} {t : Rows} (h : Holds T t) {n o : ℕ} (ho : o + n ≤ R) :
    Holds (blk n T o) fun x => t (o + x) := fun x d => h.row (show o + x.val < R by have := x.isLt; omega) d

/-- The same, of a row number taken within its tile. -/
theorem sel_mod {α : Type} {n : ℕ} (hn : n < 4) (z : ℕ) (a b : α) :
    Scalar.select (IntOp.cmpi CmpIPredicate.ne (IntOp.andi (BitVec.ofNat 32 (z % 512)) (BitVec.ofNat 32 (2 ^ n))) 0#32) a b
      = if isFirst n (z % 512) then b else a :=
  sel_bit hn (Nat.mod_lt _ (by decide)) a b

/-- A tile of 512 rows at a distance below 16 is a stage over the real numbers. -/
theorem loTile_real {n : ℕ} (hn : n < 4) {w t v : Rows}
    {Wq Wk : FVec Ideal S768x768 .bf16} {T V : Vec Ideal S512x768 .bf16}
    (hq : ∀ o j, Wq (ix2 o j) = ((w o.val j : ℝ) : EReal)) (hk : ∀ o j, Wk (ix2 o j) = ((w (768 + o.val) j : ℝ) : EReal))
    (ht : Holds T t) (hv : Holds V v) (x : Fin 512) (d : Fin 768) :
    loTile (BitVec.ofNat 32 (2 ^ n)) (BitVec.ofNat 32 (512 - 2 ^ n)) Wq Wk k1_pay53 bmat T V (ix2 x d) = ((mix n w v t x.val d : ℝ) : EReal) := by
  obtain ⟨x, hx⟩ := x
  unfold Holds at ht hv
  pointwise [loTile, loW]
  have p2 : (BitVec.ofNat 32 (2 ^ n)).toNat % 512 = 2 ^ n := by interval_cases n <;> rfl
  have p3 : (BitVec.ofNat 32 (512 - 2 ^ n)).toNat % 512 = 512 - 2 ^ n := by interval_cases n <;> rfl
  simp only [sel_bit hn hx, sel_mod hn, p2, p3, ht, hv, hq, hk, smat_at, bmat_at]
  have hle : 2 ^ n < 16 := by interval_cases n <;> decide
  have hpos : 0 < 2 ^ n := Nat.two_pow_pos n
  by_cases h : isFirst n x
  · have hlt : x + 2 ^ n < 512 := by
      unfold isFirst at h
      clear * - h hn hx
      interval_cases n <;> omega
    have e : (x + 512 - (512 - 2 ^ n)) % 512 = x + 2 ^ n := by omega
    have e1 : (x + 2 ^ n + 512 - 2 ^ n) % 512 = x := by omega
    simp only [if_pos h, e, e1, if_neg (not_isFirst_add h), ← EReal.coe_mul, coe_sum, sum_smat, ← EReal.coe_sub, Ideal.logistic_coe, ← EReal.coe_add, sum_bmat]
    simp only [mix, weight, if_pos h, logi, first_of h, second_of h, ← sum_smat, proj, Nat.zero_add, sum_bmat]
  · have hle' := pow_le_of h
    have e : (x + 512 - 2 ^ n) % 512 = x - 2 ^ n := by omega
    simp only [if_neg h, e, if_pos (isFirst_sub h), ← EReal.coe_mul, coe_sum, sum_smat, ← EReal.coe_sub, Ideal.logistic_coe, ← EReal.coe_add, sum_bmat]
    simp only [mix, weight, if_neg h, logi, first_of_not h, second_of_not h, ← sum_smat, proj, Nat.zero_add, add_comm (v x d), sum_bmat]

/-- The weight of the first row of a pair, per head, in the gathered form. -/
theorem pay46_real {w a b : Rows} {Wq Wk : FVec Ideal S768x768 .bf16} {A B : Vec Ideal S512x768 .bf16}
    (hq : ∀ o j, Wq (ix2 o j) = ((w o.val j : ℝ) : EReal)) (hk : ∀ o j, Wk (ix2 o j) = ((w (768 + o.val) j : ℝ) : EReal))
    (ha : Holds A a) (hb : Holds B b) (x : Fin 512) (g : Fin 12) :
    k1_pay46 Wq Wk k1_pay53 A B (ix2 x g)
      = ((logi (dotHead (proj w 0 a x.val) (proj w 768 a x.val) g - dotHead (proj w 0 a x.val) (proj w 768 b x.val) g) : ℝ) : EReal) := by
  unfold Holds at ha hb
  pointwise [k1_pay46]
  simp only [ha, hb, hq, hk, smat_at, coe_sum, ← EReal.coe_mul, ← EReal.coe_sub, Ideal.logistic_coe]
  simp only [← sum_smat, logi, proj, Nat.zero_add]

/-- What a tile puts into the first rows of its pairs. -/
theorem pay48_real {w a b u : Rows} {Wq Wk : FVec Ideal S768x768 .bf16} {A B U : Vec Ideal S512x768 .bf16}
    (hq : ∀ o j, Wq (ix2 o j) = ((w o.val j : ℝ) : EReal)) (hk : ∀ o j, Wk (ix2 o j) = ((w (768 + o.val) j : ℝ) : EReal))
    (ha : Holds A a) (hb : Holds B b)
    (hu : Holds U u) (x : Fin 512) (d : Fin 768) :
    k1_pay48 Wq Wk k1_pay53 bmat A B U (ix2 x d)
      = ((logi (dotHead (proj w 0 a x.val) (proj w 768 a x.val) (head d) - dotHead (proj w 0 a x.val) (proj w 768 b x.val) (head d))
          * u x.val d : ℝ) : EReal) := by
  have h46 := pay46_real hq hk ha hb
  unfold Holds at hu
  pointwise [k1_pay48, k1_pay47]
  simp only [h46, bmat_at, hu, coe_sum, ← EReal.coe_mul]
  simp only [sum_bmat]

/-- What a tile puts into the second rows of its pairs. -/
theorem pay49_real {w a b u : Rows} {Wq Wk : FVec Ideal S768x768 .bf16} {A B U : Vec Ideal S512x768 .bf16}
    (hq : ∀ o j, Wq (ix2 o j) = ((w o.val j : ℝ) : EReal)) (hk : ∀ o j, Wk (ix2 o j) = ((w (768 + o.val) j : ℝ) : EReal))
    (ha : Holds A a) (hb : Holds B b)
    (hu : Holds U u) (x : Fin 512) (d : Fin 768) :
    k1_pay49 Wq Wk k1_pay53 bmat A B U (ix2 x d)
      = ((logi (dotHead (proj w 0 a x.val) (proj w 768 b x.val) (head d) - dotHead (proj w 0 a x.val) (proj w 768 a x.val) (head d))
          * u x.val d : ℝ) : EReal) := by
  have h46 := pay46_real hq hk ha hb
  unfold Holds at hu
  pointwise [k1_pay49, k1_pay47]
  simp only [h46, bmat_at, hu, ← EReal.coe_one, ← EReal.coe_sub, coe_sum, ← EReal.coe_mul]
  simp only [sum_bmat, logi_neg, neg_sub]

/-- A stage at a distance below 512 rows, over the real numbers. -/
theorem loStage_real {n : ℕ} (hn : n < 4) {w h v : Rows}
    {Wq Wk : FVec Ideal S768x768 .bf16} {V H : Vec Ideal S4096x768 .bf16}
    (hq : ∀ o j, Wq (ix2 o j) = ((w o.val j : ℝ) : EReal)) (hk : ∀ o j, Wk (ix2 o j) = ((w (768 + o.val) j : ℝ) : EReal))
    (hh : Holds H h) (hv : Holds V v) :
    Holds (loStage (BitVec.ofNat 32 (2 ^ n)) (BitVec.ofNat 32 (512 - 2 ^ n)) Wq Wk V H) (mix n w v h) := by
  intro x d
  have hx := x.isLt
  have e : 512 * (x.val / 512) + x.val % 512 = x.val := Nat.div_add_mod _ _
  unfold loStage
  rw [byTile_block 512 _ (x.val / 512) (ix2 (Fin.ofNat 512 x.val) d) (ix2 x d) e.symm rfl]
  rw [loTile_real hn hq hk (hh.blk (n := 512) (o := 512 * (x.val / 512)) (by omega))
    (hv.blk (n := 512) (o := 512 * (x.val / 512)) (by omega)), mix_shift (by omega)]
  rw [show 512 * (x.val / 512) + (Fin.ofNat 512 x.val).val = x.val from e]

/-- Both rows of a pair are rows of the table. -/
theorem aRow_lt {n : ℕ} (h4 : 4 ≤ n) (hn : n < 12) {p : ℕ} (hp : p < 2048) : aRow (2 ^ n) p + 2 ^ n < 4096 := by
  unfold aRow
  interval_cases n <;> omega

/-- The gathered first rows. -/
theorem gatherA_real {n : ℕ} (h4 : 4 ≤ n) (hn : n < 12) {H : Vec Ideal S4096x768 .bf16} {h : Rows} (hh : Holds H h) :
    Holds (gatherA (2 ^ n) H : Vec Ideal S2048x768 .bf16) fun p => h (aRow (2 ^ n) p) :=
  fun x d => hh.row (show aRow (2 ^ n) x.val < 4096 from Nat.lt_of_le_of_lt (Nat.le_add_right _ _) (aRow_lt h4 hn x.isLt)) d

/-- The gathered second rows. -/
theorem gatherB_real {n : ℕ} (h4 : 4 ≤ n) (hn : n < 12) {H : Vec Ideal S4096x768 .bf16} {h : Rows} (hh : Holds H h) :
    Holds (gatherB (2 ^ n) H : Vec Ideal S2048x768 .bf16) fun p => h (aRow (2 ^ n) p + 2 ^ n) :=
  fun x d => hh.row (aRow_lt h4 hn x.isLt) d

/-- The gathered sums of the pairs' values. -/
theorem pairSums_real {n : ℕ} (h4 : 4 ≤ n) (hn : n < 12) {V : Vec Ideal S4096x768 .bf16} {v : Rows} (hv : Holds V v) :
    Holds (pairSums (F := Ideal) (2 ^ n) V) fun p d => v (aRow (2 ^ n) p) d + v (aRow (2 ^ n) p + 2 ^ n) d := by
  intro x d
  rw [EReal.coe_add, ← gatherA_real h4 hn hv x d, ← gatherB_real h4 hn hv x d]
  rfl

section Gathered

variable {n : ℕ} (h4 : 4 ≤ n) (hn : n < 12) {w h v : Rows} {Wq Wk : FVec Ideal S768x768 .bf16} {V H : Vec Ideal S4096x768 .bf16}
  (hq : ∀ o j, Wq (ix2 o j) = ((w o.val j : ℝ) : EReal)) (hk : ∀ o j, Wk (ix2 o j) = ((w (768 + o.val) j : ℝ) : EReal))
  (hh : Holds H h) (hv : Holds V v)

include h4 hn hq hk hh hv

/-- What a stage computes for the first row `a` of a pair, in the gathered form. -/
theorem midA_real : Holds (midA Wq Wk (gatherA (2 ^ n) H) (gatherB (2 ^ n) H) (pairSums (2 ^ n) V)) fun p d =>
    logi (dotHead (proj w 0 h (aRow (2 ^ n) p)) (proj w 768 h (aRow (2 ^ n) p)) (head d)
      - dotHead (proj w 0 h (aRow (2 ^ n) p)) (proj w 768 h (aRow (2 ^ n) p + 2 ^ n)) (head d))
      * (v (aRow (2 ^ n) p) d + v (aRow (2 ^ n) p + 2 ^ n) d) := by
  intro x d
  have hx := x.isLt
  have e : 512 * (x.val / 512) + x.val % 512 = x.val := Nat.div_add_mod _ _
  unfold midA
  rw [byTile_block 512 _ (x.val / 512) (ix2 (Fin.ofNat 512 x.val) d) (ix2 x d) e.symm rfl,
    pay48_real hq hk ((gatherA_real h4 hn hh).blk (n := 512) (o := 512 * (x.val / 512)) (by omega))
      ((gatherB_real h4 hn hh).blk (n := 512) (o := 512 * (x.val / 512)) (by omega))
      ((pairSums_real h4 hn hv).blk (n := 512) (o := 512 * (x.val / 512)) (by omega))]
  unfold proj
  simp only [show 512 * (x.val / 512) + (Fin.ofNat 512 x.val).val = x.val from e]

/-- What a stage computes for the second row of a pair. -/
theorem midB_real : Holds (midB Wq Wk (gatherA (2 ^ n) H) (gatherB (2 ^ n) H) (pairSums (2 ^ n) V)) fun p d =>
    logi (dotHead (proj w 0 h (aRow (2 ^ n) p)) (proj w 768 h (aRow (2 ^ n) p + 2 ^ n)) (head d)
      - dotHead (proj w 0 h (aRow (2 ^ n) p)) (proj w 768 h (aRow (2 ^ n) p)) (head d))
      * (v (aRow (2 ^ n) p) d + v (aRow (2 ^ n) p + 2 ^ n) d) := by
  intro x d
  have hx := x.isLt
  have e : 512 * (x.val / 512) + x.val % 512 = x.val := Nat.div_add_mod _ _
  unfold midB
  rw [byTile_block 512 _ (x.val / 512) (ix2 (Fin.ofNat 512 x.val) d) (ix2 x d) e.symm rfl,
    pay49_real hq hk ((gatherA_real h4 hn hh).blk (n := 512) (o := 512 * (x.val / 512)) (by omega))
      ((gatherB_real h4 hn hh).blk (n := 512) (o := 512 * (x.val / 512)) (by omega))
      ((pairSums_real h4 hn hv).blk (n := 512) (o := 512 * (x.val / 512)) (by omega))]
  unfold proj
  simp only [show 512 * (x.val / 512) + (Fin.ofNat 512 x.val).val = x.val from e]

/-- A stage by gather and scatter, over the real numbers. -/
theorem hiStage_real : Holds (hiStage (2 ^ n) Wq Wk V H) (mix n w v h) := by
  intro x d
  have hx := x.isLt
  have hpos : 0 < 2 ^ n := Nat.two_pow_pos n
  unfold hiStage scatter
  show (if x.val % (2 * 2 ^ n) < 2 ^ n then row _ (2 ^ n * (x.val / (2 * 2 ^ n)) + x.val % (2 * 2 ^ n)) d
    else row _ (2 ^ n * (x.val / (2 * 2 ^ n)) + (x.val % (2 * 2 ^ n) - 2 ^ n)) d) = _
  have e := Nat.div_add_mod x.val (2 * 2 ^ n)
  by_cases hf : isFirst n x.val
  · have hm : x.val % (2 * 2 ^ n) < 2 ^ n := by
      unfold isFirst at hf
      clear * - hf h4 hn
      interval_cases n <;> omega
    have hp : 2 ^ n * (x.val / (2 * 2 ^ n)) + x.val % (2 * 2 ^ n) < 2048 := by
      clear * - hm h4 hn hx
      interval_cases n <;> omega
    rw [if_pos hm, (midA_real h4 hn hq hk hh hv).row hp, aRow_block hpos _ _ hm, e]
    simp only [mix, weight, if_pos hf, first_of hf, second_of hf]
  · have hm : ¬x.val % (2 * 2 ^ n) < 2 ^ n := by
      unfold isFirst at hf
      clear * - hf h4 hn
      interval_cases n <;> omega
    have hm' : x.val % (2 * 2 ^ n) - 2 ^ n < 2 ^ n := by
      have := Nat.mod_lt x.val (show 0 < 2 * 2 ^ n by omega)
      omega
    have hp : 2 ^ n * (x.val / (2 * 2 ^ n)) + (x.val % (2 * 2 ^ n) - 2 ^ n) < 2048 := by
      clear * - hm' h4 hn hx
      interval_cases n <;> omega
    have e' : 2 * 2 ^ n * (x.val / (2 * 2 ^ n)) + (x.val % (2 * 2 ^ n) - 2 ^ n) = x.val - 2 ^ n := by omega
    rw [if_neg hm, (midB_real h4 hn hq hk hh hv).row hp, aRow_block hpos _ _ hm', e', Nat.sub_add_cancel (pow_le_of hf)]
    simp only [mix, weight, if_neg hf, first_of_not hf, second_of_not hf]

end Gathered

/-- The upper half of a stage's weights, for the queries. -/
theorem wq_real {W : Vec Ideal S1x1536x768 .bf16} {w : Rows} (hw : ∀ o j, W (ix3 0 o j) = ((w o.val j : ℝ) : EReal)) (o j : Fin 768) :
    wq W (ix2 o j) = ((w o.val j : ℝ) : EReal) := by
  pointwise [wq, k1_pay51]
  exact hw ⟨o.val, by omega⟩ j

/-- The lower half, for the keys. -/
theorem wk_real {W : Vec Ideal S1x1536x768 .bf16} {w : Rows} (hw : ∀ o j, W (ix3 0 o j) = ((w o.val j : ℝ) : EReal)) (o j : Fin 768) :
    wk W (ix2 o j) = ((w (768 + o.val) j : ℝ) : EReal) := by
  pointwise [wk, k1_pay52]
  exact hw ⟨768 + o.val, by omega⟩ j

/-- Stage `n` over the real numbers. -/
theorem stage_real {n : ℕ} (hn : n < 12) {w h v : Rows} {W : Vec Ideal S1x1536x768 .bf16} {V H : Vec Ideal S4096x768 .bf16}
    (hw : ∀ o j, W (ix3 0 o j) = ((w o.val j : ℝ) : EReal)) (hh : Holds H h) (hv : Holds V v) (h0 : n = 0 → h = v) :
    Holds (stage n W V H) (mix n w v h) := by
  unfold stage
  by_cases h4 : n < 4
  · rw [if_pos h4]
    refine loStage_real h4 (wq_real hw) (wk_real hw) ?_ hv
    by_cases hz : n = 0
    · rw [if_pos hz, h0 hz]; exact hv
    · rw [if_neg hz]; exact hh
  · rw [if_neg h4]
    exact hiStage_real (by omega) hn (wq_real hw) (wk_real hw) hh hv

end Cert.KernelIdeal.Hand

end
-- ==== Proof.ValueWhole.lean ====
/-
  What the whole kernel returns, over the real numbers: the first region leaves the values, the second the rows of stage 12.
-/
module

public import proofs.«01_k».proof.Proof.IdealWhole
public import proofs.«01_k».proof.Proof.ValueStage
public import Idealize.ShloMosaic.Lib.Pipeline.ValueKit

@[expose] public section

set_option maxRecDepth 16384

noncomputable section

namespace Cert.KernelIdeal.Hand

open Cert.KernelIdeal Cert.KernelIdeal.Gen Cert.Rows Cert.Math
open Idealize.ShloMosaic Idealize.ShloMosaic.TcCoe Idealize.ShloMosaic.Tactic

variable (m : (ℓ : Loc nD τ sig) → Buf (Elt Ideal) ℓ) (c : Dev nD)

/-- Region 0 reads the input without its axis of length one. -/
theorem V1_main_v0 (r : Fin 4096) (j : Fin 768) :
    (V1 m c main_v0 : Vec Ideal S4096x768 .f32) (ix2 r j) = (m (c.tc.loc main_arg0) : Vec Ideal S1x4096x768 .f32) (ix3 0 r j) := by
  unfold_abbrev_sides
  after_results
  pointwise

/-- Region 0 reads the values' weights. -/
theorem V1_main_v1 (r j : Fin 768) :
    (V1 m c main_v1 : Vec Ideal S768x768 .bf16) (ix2 r j) = (m (c.tc.loc main_arg1) : Vec Ideal S768x768 .f32) (ix2 r j) := by
  unfold_abbrev_sides
  after_results
  pointwise

/-- Region 1 reads the stages' weights. -/
theorem V3_main_v3 (n : Fin 12) (r : Fin 1536) (j : Fin 768) :
    (V3 m (outsA m) c main_v3 : Vec Ideal S12x1536x768 .bf16) (ix3 n r j) = (m (c.tc.loc main_arg2) : Vec Ideal S12x1536x768 .f32) (ix3 n r j) := by
  unfold_abbrev_sides
  after_results
  pointwise
  rw [show V2 m (outsA m) c (Proc.devRef .tc main_arg2) = V1 m c (Proc.devRef .tc main_arg2) from V2_of m (outsA m) c main_arg2 (by decide),
    show V1 m c (Proc.devRef .tc main_arg2) = V0 m c (Proc.devRef .tc main_arg2) from V1_of m c main_arg2 (by decide)]

/-- Region 1 reads the values that region 0 left. -/
theorem V3_main_v2 : V3 m (outsA m) c main_v2 = (dat0 (V1 m) c).arrAt 2 cfg0.N := by
  rw [V3_of m (outsA m) c main_v2 (by decide)]
  exact (Function.update_self _ _ _).trans (Pipeline.afterRegion_arr (dat0 (V1 m) c) (V1 m c) launch0.win.arr_inj 2)

/-- Behind region 1 stands what it wrote. -/
theorem V4_main_v4 : V4 m (outs m) c main_v4 = (dat1 (V3 m (outsA m)) c).arrAt 2 cfg1.N :=
  (Function.update_self _ _ _).trans (Pipeline.afterRegion_arr (dat1 (V3 m (outsA m)) c) (V3 m (outsA m) c) launch1.win.arr_inj 2)

/-- The result is what region 1 wrote, with the axis of length one put back. -/
theorem V5_main_v6 (r : Fin 4096) (j : Fin 768) :
    (V5 m (outs m) c main_v6 : Vec Ideal S1x4096x768 .f32) (ix3 0 r j) = (V4 m (outs m) c main_v4 : Vec Ideal S4096x768 .bf16) (ix2 r j) := by
  rw [show V5 m (outs m) c = StableHlo.after hostOps2 (V4 m (outs m) c) from rfl]
  generalize V4 m (outs m) c = V
  after_results
  pointwise

/-- The product of the rows of `X` with the rows of `W`. -/
def rowProduct (X : Vec Ideal S4096x768 .f32) (W : Vec Ideal S768x768 .bf16) : Vec Ideal S4096x768 .bf16 :=
  fun y => (∑ j : Fin 768, (X (ix2 (y 0) j) : EReal) * (W (ix2 (y 1) j) : EReal) : EReal)

/-- Region 0, over all its tiles, leaves the product of the rows of its two operands. -/
theorem arr0 : (dat0 (V1 m) c).arrAt 2 cfg0.N = rowProduct (V1 m c main_v0) (V1 m c main_v1) := by
  refine (dat0 (V1 m) c).arrAt_eq_of_covers 2 _ (by decide +kernel) fun t hf y => ?_
  blk_simp
  show k0_pay1 (blk0 (V1 m) c 0 t) (blk0 (V1 m) c 1 t) y = _
  idx_vars y
  pointwise [k0_pay1]
  refine Finset.sum_congr rfl fun j _ => congrArg₂ (fun a b : EReal => a * b) ?_ ?_
  · refine congrArg (V1 m c main_v0) (funext fun a => ?_)
    match a with
    | 0 =>
      refine Fin.ext ?_
      show ((win0_0.rect t).emb (ix2 y0 j) 0 : ℕ) = ((win0_2.rect t).emb (ix2 y0 y1) 0 : ℕ)
      exact (Pipeline.Window.rect_emb_val win0_0 t (ix2 y0 j) 0).trans (Pipeline.Window.rect_emb_val win0_2 t (ix2 y0 y1) 0).symm
    | 1 => exact Fin.ext (Pipeline.Window.rect_emb_val_of_index_zero win0_0 t 1 rfl (ix2 y0 j))
  · refine congrArg (V1 m c main_v1) (funext fun a => ?_)
    match a with
    | 0 =>
      refine Fin.ext ((Pipeline.Window.rect_emb_val_of_index_zero win0_1 t 0 rfl (ix2 y1 j)).trans ?_)
      exact (Pipeline.Window.rect_emb_val_of_index_zero win0_2 t 1 rfl (ix2 y0 y1)).symm
    | 1 => exact Fin.ext (Pipeline.Window.rect_emb_val_of_index_zero win0_1 t 1 rfl (ix2 y1 j))

/-- Region 1, over all its points, leaves the rows of stage 12. -/
theorem arr1 : (dat1 (V3 m (outsA m)) c).arrAt 2 cfg1.N = rowsAt (V3 m (outsA m)) c 12 := by
  refine (dat1 (V3 m (outsA m)) c).arrAt_eq_of_after_last 2 t1_11 (by decide +kernel) _ fun j => ?_
  blk_simp
  rfl

section Value

variable {x wv : Rows} {W : ℕ → Rows}
  (hx : ∀ r j, (m (c.tc.loc main_arg0) : Vec Ideal S1x4096x768 .f32) (ix3 0 r j) = ((x r.val j : ℝ) : EReal))
  (hv : ∀ r j, (m (c.tc.loc main_arg1) : Vec Ideal S768x768 .f32) (ix2 r j) = ((wv r.val j : ℝ) : EReal))
  (hW : ∀ n r j, (m (c.tc.loc main_arg2) : Vec Ideal S12x1536x768 .f32) (ix3 n r j) = ((W n.val r.val j : ℝ) : EReal))

include hx hv in
/-- Region 0 leaves the values. -/
theorem vals_real : Holds (vals (V3 m (outsA m)) c) (proj wv 0 x) := by
  intro r d
  refine (congrFun ((V3_main_v2 m c).trans (arr0 m c)) (ix2 r d)).trans ?_
  refine (Finset.sum_congr rfl fun j _ => congrArg₂ (fun a b : EReal => a * b) ((V1_main_v0 m c r j).trans (hx r j))
    ((V1_main_v1 m c d j).trans (hv d j))).trans ?_
  simp only [← EReal.coe_mul, coe_sum]
  simp only [proj, Nat.zero_add]

include hx hv hW in
/-- The rows after the first `n` stages. -/
theorem rowsAt_real (n : ℕ) (hn : n ≤ 12) : Holds (rowsAt (V3 m (outsA m)) c n) (mixes W (proj wv 0 x) n) := by
  induction n with
  | zero => exact vals_real m c hx hv
  | succ n ih =>
    refine stage_real (by omega) (fun o j => ?_) (ih (by omega)) (vals_real m c hx hv) (fun h => by subst h; rfl)
    refine (V3_main_v3 m c (Fin.ofNat 12 n) o j).trans ((hW _ _ _).trans ?_)
    rw [show (Fin.ofNat 12 n).val = n from Nat.mod_eq_of_lt (by omega)]

include hx hv hW in
/-- What the program returns, entry by entry. -/
theorem result_real (r : Fin 4096) (d : Fin 768) :
    (V5 m (outs m) c main_v6 : Vec Ideal S1x4096x768 .f32) (ix3 0 r d) = ((mixes W (proj wv 0 x) 12 r.val d : ℝ) : EReal) := by
  refine (V5_main_v6 m c r d).trans ?_
  refine (congrFun ((V4_main_v4 m c).trans (arr1 m c)) (ix2 r d)).trans ?_
  exact rowsAt_real m c hx hv hW 12 le_rfl r d

end Value

end Cert.KernelIdeal.Hand

end
-- ==== Proof.ValueRef.lean ====
/-
  What one trip of the reference's loop computes, over the real numbers.
-/
module

public import proofs.«01_k».proof.Proof.Gen.ReferenceIdeal.Step
public import proofs.«01_k».proof.Proof.Model

@[expose] public section

set_option maxRecDepth 16384

noncomputable section

namespace Cert.ReferenceIdeal.Hand

open Cert.ReferenceIdeal Cert.ReferenceIdeal.Gen Cert.ReferenceIdeal.Step Cert.Math
open Idealize.ShloMosaic

/-- The gather of rows, read at an index: the row that the index table names. -/
theorem gather_at {α : Type} (x : S1x12x4096x64.Idx → α) (idx : IVec S4096x1 32) (g : Fin 12) (r : Fin 4096) (e : Fin 64) :
    Host.gather gather_S1x12x4096x64_S4096x1_S1x12x4096x64_013_2_n_n_2_1_112164 x idx (ix4 0 g r e)
      = x (ix4 0 g ⟨min (idx (ix2 r 0)).toInt.toNat 4095, by omega⟩ e) := by
  unfold Host.gather
  congr 1
  funext a
  refine Fin.ext ?_
  match a with
  | 0 => rfl
  | 1 => exact Nat.zero_add _
  | 2 =>
    show min (idx _).toInt.toNat 4095 = min (idx _).toInt.toNat 4095
    refine congrArg (fun k => min (idx k).toInt.toNat 4095) (funext fun b => Fin.ext ?_)
    match b with
    | 0 => rfl
    | 1 => rfl
  | 3 => exact Nat.zero_add _

/-- Shifting a row number right by `j` bits and keeping the lowest bit gives bit `j`. -/
theorem shr_word {j r : ℕ} (hj : j < 12) (hr : r < 4096) :
    IntOp.andi (IntOp.shrsi ArithUnit.host (BitVec.ofNat 32 r) (BitVec.ofNat 32 j)) 1#32 = BitVec.ofNat 32 (r / 2 ^ j % 2) := by
  have hm : (BitVec.ofNat 32 r).msb = false := by
    rw [BitVec.msb_eq_decide]; simp; omega
  have hs : (BitVec.ofNat 32 j).toNat = j := by simp; omega
  unfold IntOp.shrsi IntOp.andi
  rw [if_pos (by omega)]
  apply BitVec.eq_of_toNat_eq
  have hr' : r % 2 ^ 32 = r := by omega
  rw [BitVec.toNat_and, BitVec.sshiftRight', BitVec.toNat_sshiftRight_of_msb_false hm, hs, Nat.shiftRight_eq_div_pow]
  simp only [BitVec.toNat_ofNat, hr', Nat.and_one_is_mod]
  have : (1:ℕ) % 2 ^ 32 = 1 := rfl
  rw [this, Nat.and_one_is_mod]
  omega

/-- Shifting one bit left by `j` places multiplies it by `2 ^ j`. -/
theorem shl_word {j b : ℕ} (hj : j < 12) (hb : b < 2) :
    IntOp.shli ArithUnit.host (BitVec.ofNat 32 b) (BitVec.ofNat 32 j) = BitVec.ofNat 32 (b * 2 ^ j) := by
  interval_cases j <;> interval_cases b <;> rfl

/-- The row number of the first row of a pair, as the program computes it in words. -/
def firstWord (j r : ℕ) : BitVec 32 :=
  IntOp.subi (BitVec.ofNat 32 r) (IntOp.shli ArithUnit.host
    (IntOp.andi (IntOp.shrsi ArithUnit.host (BitVec.ofNat 32 r) (BitVec.ofNat 32 j)) 1#32) (BitVec.ofNat 32 j))

/-- The word of a number below 4096, read back as a number. -/
theorem read_word {n : ℕ} (hn : n < 4096) : (BitVec.ofNat 32 n).toInt.toNat = n := by
  rw [BitVec.toInt_eq_toNat_of_msb (by rw [BitVec.msb_eq_decide]; simp; omega)]
  simp; omega

/-- The second row of a pair is a row of the table. -/
theorem second_lt' {j r : ℕ} (hj : j < 12) (hr : r < 4096) : second j r < 4096 := by
  unfold second first
  interval_cases j <;> omega

/-- The word of the first row is the word of its number. -/
theorem firstWord_eq {j r : ℕ} (hj : j < 12) (hr : r < 4096) : firstWord j r = BitVec.ofNat 32 (first j r) := by
  unfold firstWord
  rw [shr_word hj hr, shl_word hj (by omega)]
  unfold first IntOp.subi
  have hle : r / 2 ^ j % 2 * 2 ^ j ≤ r := le_trans (Nat.mul_le_mul_right _ (Nat.mod_le _ _)) (Nat.div_mul_le_self _ _)
  generalize r / 2 ^ j % 2 * 2 ^ j = k at hle
  apply BitVec.eq_of_toNat_eq
  simp only [BitVec.toNat_sub, BitVec.toNat_ofNat]
  omega

/-- So is the word of the second row. -/
theorem secondWord_eq {j r : ℕ} (hj : j < 12) (hr : r < 4096) :
    IntOp.addi (firstWord j r) (IntOp.shli ArithUnit.host 1#32 (BitVec.ofNat 32 j)) = BitVec.ofNat 32 (second j r) := by
  have h1 := shl_word hj (b := 1) (by omega)
  rw [firstWord_eq hj hr, show (1#32) = BitVec.ofNat 32 1 from rfl, h1, Nat.one_mul]
  unfold second IntOp.addi
  exact (BitVec.ofNat_add _ _).symm

/-- The word of the scale is 1/8. -/
theorem ofBits_eighth : Ideal.ofBits .f32 1040187392#32 = ((1 / 8 : ℝ) : EReal) := by
  simp [Ideal.ofBits, Ideal.ieee, -EReal.coe_mul]; norm_num

/-- The word that the reference's maximum starts from is the least extended real. -/
theorem ofBits_bot : Ideal.ofBits .f32 4286578688#32 = (⊥ : EReal) := by
  simp [Ideal.ofBits, Ideal.ieee]

/-- The greater of two real scores, as the reference's reduction over the pair finds it. -/
theorem max_two (a b : ℝ) : max (Ideal.ofBits .f32 4286578688#32) (Finset.fold max (Ideal.ofBits .f32 4286578688#32)
    (fun x : Fin 2 => if _ : x.val < 1 then ((a : ℝ) : EReal) else ((b : ℝ) : EReal)) Finset.univ) = ((max a b : ℝ) : EReal) := by
  rw [ofBits_bot, max_eq_right bot_le, show (Finset.univ : Finset (Fin 2)) = {0, 1} from rfl,
    Finset.fold_insert (by decide), Finset.fold_singleton]
  simp only [max_bot_right, Fin.val_zero, Fin.val_one, Nat.lt_irrefl, Nat.zero_lt_one, dite_true, dite_false]
  exact (EReal.coe_strictMono.monotone.map_max).symm

/-- The reference's quotient of one exponential by the sum of the pair's. -/
theorem div_two (x y M : ℝ) : Ideal.div (Ideal.exp ((x : EReal) - (M : EReal))) (Ideal.exp ((x : EReal) - (M : EReal)) + Ideal.exp ((y : EReal) - (M : EReal)))
    = ((logi (x - y) : ℝ) : EReal) := by
  have hp : Real.exp (x - M) + Real.exp (y - M) ≠ 0 := (add_pos (Real.exp_pos _) (Real.exp_pos _)).ne'
  rw [← EReal.coe_sub, ← EReal.coe_sub, Ideal.exp_coe, Ideal.exp_coe, ← EReal.coe_add, Ideal.div_coe hp, ← EReal.coe_mul, ← softmax_two x y M]
  congr 1
  exact (div_eq_mul_one_div _ _).symm

variable (j : ℕ) (hj : j < 12) (s : State Ideal)

/-- The reference's index of the first row. -/
theorem b29_word (r : Fin 4096) : b29 j s (ix1 r) = firstWord j r.val := by
  pointwise [b29, b28, b27, b26, b25, b24, b23, b22, b21, b20, K_main_v4]
  rfl

/-- The reference's index of the second row. -/
theorem b34_word (r : Fin 4096) : b34 j s (ix1 r) = IntOp.addi (firstWord j r.val) (IntOp.shli ArithUnit.host 1#32 (BitVec.ofNat 32 j)) := by
  pointwise [b34, b33, b32, b31, b30]
  rw [b29_word]
  rfl

/-- The reference's test of the row's bit. -/
theorem b25_word (r : Fin 4096) : b25 j s (ix1 r)
    = IntOp.andi (IntOp.shrsi ArithUnit.host (BitVec.ofNat 32 r.val) (BitVec.ofNat 32 j)) 1#32 := by
  pointwise [b25, b24, b23, b22, b21, b20, K_main_v4]
  rfl

include hj

/-- The second row of a pair is a row of the table. -/
theorem second_lt (r : Fin 4096) : second j r.val < 4096 := by
  exact second_lt' hj r.isLt

/-- The first row of a pair is a row of the table. -/
theorem first_lt (r : Fin 4096) : first j r.val < 4096 := Nat.lt_of_le_of_lt (Nat.le_add_right _ _) (second_lt j hj r)

/-- Gathering by the first index gives the pair's first row. -/
theorem gather_first {α : Type} (x : S1x12x4096x64.Idx → α) (g : Fin 12) (r : Fin 4096) (e : Fin 64) :
    Host.gather gather_S1x12x4096x64_S4096x1_S1x12x4096x64_013_2_n_n_2_1_112164 x (broadcastInDim S4096x1 ![0] bcast_S4096_S4096x1_0 (b29 j s)) (ix4 0 g r e)
      = x (ix4 0 g ⟨first j r.val, first_lt j hj r⟩ e) := by
  rw [gather_at]
  have hlt := first_lt j hj r
  have hb : (broadcastInDim S4096x1 ![0] bcast_S4096_S4096x1_0 (b29 j s)) (ix2 r 0) = firstWord j r.val := by
    pointwise
    exact b29_word j s r
  refine congrArg (fun k => x (ix4 0 g k e)) (Fin.ext ?_)
  show min (BitVec.toInt _).toNat 4095 = first j r.val
  rw [hb, firstWord_eq hj r.isLt, read_word hlt]
  omega

/-- Gathering by the second index gives the pair's second row. -/
theorem gather_second {α : Type} (x : S1x12x4096x64.Idx → α) (g : Fin 12) (r : Fin 4096) (e : Fin 64) :
    Host.gather gather_S1x12x4096x64_S4096x1_S1x12x4096x64_013_2_n_n_2_1_112164 x (broadcastInDim S4096x1 ![0] bcast_S4096_S4096x1_0 (b34 j s)) (ix4 0 g r e)
      = x (ix4 0 g ⟨second j r.val, second_lt j hj r⟩ e) := by
  rw [gather_at]
  have hlt := second_lt j hj r
  have hb : (broadcastInDim S4096x1 ![0] bcast_S4096_S4096x1_0 (b34 j s)) (ix2 r 0)
      = IntOp.addi (firstWord j r.val) (IntOp.shli ArithUnit.host 1#32 (BitVec.ofNat 32 j)) := by
    pointwise
    exact b34_word j s r
  refine congrArg (fun k => x (ix4 0 g k e)) (Fin.ext ?_)
  show min (BitVec.toInt _).toNat 4095 = second j r.val
  rw [hb, secondWord_eq hj r.isLt, read_word hlt]
  omega

/-- A selection by the row's bit is a selection by its place in the pair. -/
theorem sel_first {α : Type} (r : Fin 4096) (a b : α) :
    Scalar.select (IntOp.cmpi CmpIPredicate.eq (b25 j s (ix1 r)) 0#32) a b = if isFirst j r.val then a else b := by
  rw [b25_word, shr_word hj r.isLt]
  by_cases h : isFirst j r.val
  · rw [if_pos h, show r.val / 2 ^ j % 2 = 0 from h]; rfl
  · rw [if_neg h, show r.val / 2 ^ j % 2 = 1 from Nat.mod_two_ne_zero.mp h]; rfl

/-- The slice of the weights at the stage's number. -/
theorem b10_at (o : Fin 1536) (x : Fin 768) : b10 j s (ix3 0 o x) = s.main_v5_0 (ix3 ⟨j, hj⟩ o x) := by
  unfold b10 Host.dynamicSlice extractStridedSlice
  refine congrArg s.main_v5_0 (funext fun a => Fin.ext ?_)
  match a with
  | 0 => interval_cases j <;> rfl
  | 1 => exact Nat.zero_add _
  | 2 => exact Nat.zero_add _

variable {W : ℕ → Rows} {v h : Rows}
  (hW : ∀ n o i, s.main_v5_0 (ix3 n o i) = ((W n.val o.val i : ℝ) : EReal))
  (hh : ∀ r i, s.main_v5_5 (ix3 0 r i) = ((h r.val i : ℝ) : EReal))

include hW hh

/-- A row's products with the stage's weights. -/
theorem b13_real (r : Fin 4096) (o : Fin 1536) : b13 j s (ix3 0 r o) = ((∑ i, h r.val i * W j o.val i : ℝ) : EReal) := by
  pointwise [b13, b12, b11]
  simp only [b10_at j hj, hW, hh, ← EReal.coe_mul, coe_sum]

/-- The queries, by heads. -/
theorem b16_real (r : Fin 4096) (g : Fin 12) (e : Fin 64) : b16 j s (ix4 0 g r e) = ((proj (W j) 0 h r.val (col g e) : ℝ) : EReal) := by
  pointwise [b16, b15, b14]
  rw [b13_real j hj s hW hh]
  simp only [proj, col, Nat.zero_add, Nat.mul_comm g.val 64]

/-- The keys, by heads. -/
theorem b19_real (r : Fin 4096) (g : Fin 12) (e : Fin 64) : b19 j s (ix4 0 g r e) = ((proj (W j) 768 h r.val (col g e) : ℝ) : EReal) := by
  pointwise [b19, b18, b17]
  rw [b13_real j hj s hW hh]
  simp only [proj, col, Nat.mul_comm g.val 64]

/-- The score of the pair's first row against itself. -/
theorem b44_real (r : Fin 4096) (g : Fin 12) : b44 j s (ix3 0 g r)
    = ((dotHead (proj (W j) 0 h (first j r.val)) (proj (W j) 768 h (first j r.val)) g : ℝ) : EReal) := by
  pointwise [b44, b43, b42, b41, b40, b39, b38, b37, b36, b35]
  simp only [gather_first j hj, b16_real j hj s hW hh, b19_real j hj s hW hh, ofBits_eighth, ← EReal.coe_mul, coe_sum]
  rfl

/-- The score of the pair's first row against the second. -/
theorem b52_real (r : Fin 4096) (g : Fin 12) : b52 j s (ix3 0 g r)
    = ((dotHead (proj (W j) 0 h (first j r.val)) (proj (W j) 768 h (second j r.val)) g : ℝ) : EReal) := by
  pointwise [b52, b51, b50, b49, b48, b47, b46, b45, b36, b35]
  simp only [gather_first j hj, gather_second j hj, b16_real j hj s hW hh, b19_real j hj s hW hh, ofBits_eighth, ← EReal.coe_mul, coe_sum]
  rfl

/-- The weight of a row: the softmax over its pair's two scores, at its own place. -/
theorem b78_real (r : Fin 4096) (g : Fin 12) : b78 j s (ix3 0 g r)
    = ((weight j (proj (W j) 0 h) (proj (W j) 768 h) r g : ℝ) : EReal) := by
  pointwise [b78, b77, b76, b75, b74, b73, b72, b71, b70, b69, b68, b67, b66, b65, b64, b63, b62, b61, b60, b59, b58, b57, b56, b55, b54, b53]
  rw [sel_first j hj]
  simp only [b44_real j hj s hW hh, b52_real j hj s hW hh]
  unfold weight
  generalize dotHead (proj (W j) 0 h (first j r.val)) (proj (W j) 768 h (first j r.val)) g = a
  generalize dotHead (proj (W j) 0 h (first j r.val)) (proj (W j) 768 h (second j r.val)) g = b
  simp only [Finset.univ_unique, Finset.sum_singleton]
  rw [max_two a b]
  by_cases hf : isFirst j r.val
  · rw [if_pos hf, if_pos hf, div_two]
  · rw [if_neg hf, if_neg hf, add_comm, div_two]

variable (hv : ∀ g r e, s.main_v5_2 (ix4 0 g r e) = ((v r.val (col g e) : ℝ) : EReal))

include hv

/-- One trip of the reference's loop computes one stage. -/
theorem b88_real (r : Fin 4096) (d : Fin 768) : b88 j s (ix3 0 r d) = ((mix j (W j) v h r.val d : ℝ) : EReal) := by
  pointwise [b88, b87, b86, b85, b84, b83, b82, b81, b80, b79]
  rw [b78_real j hj s hW hh]
  simp only [gather_first j hj, gather_second j hj, hv]
  rw [← EReal.coe_add, ← EReal.coe_mul]
  have hd : col ⟨d.val / 64, by omega⟩ ⟨d.val % 64, by omega⟩ = d := Fin.ext (Nat.div_add_mod _ _)
  rw [hd]
  rfl

end Cert.ReferenceIdeal.Hand

namespace Cert.ReferenceIdeal.Hand

open Cert.ReferenceIdeal Cert.ReferenceIdeal.Gen Cert.ReferenceIdeal.Step Cert.Math
open Idealize.ShloMosaic

section
variable {x0 : (⟨S1x4096x768, .f32⟩ : BufTy).Contents (Elt Ideal)} {x1 : (⟨S768x768, .f32⟩ : BufTy).Contents (Elt Ideal)}
  {x2 : (⟨S12x1536x768, .f32⟩ : BufTy).Contents (Elt Ideal)} {x wv : Rows} {W : ℕ → Rows}
  (hx : ∀ r j, x0 (ix3 0 r j) = ((x r.val j : ℝ) : EReal))
  (hv : ∀ r j, x1 (ix2 r j) = ((wv r.val j : ℝ) : EReal))
  (hW : ∀ n r j, x2 (ix3 n r j) = ((W n.val r.val j : ℝ) : EReal))

include hx hv

/-- The values before the loop. -/
theorem A_main_v1_real (r : Fin 4096) (d : Fin 768) : A_main_v1 x0 x1 (ix3 0 r d) = ((proj wv 0 x r.val d : ℝ) : EReal) := by
  pointwise [A_main_v1, A_main_v0]
  simp only [hx, hv, ← EReal.coe_mul, coe_sum, proj, Nat.zero_add]

/-- The values before the loop, with the heads apart. -/
theorem A_main_v3_real (g : Fin 12) (r : Fin 4096) (e : Fin 64) :
    A_main_v3 x0 x1 (ix4 0 g r e) = ((proj wv 0 x r.val (col g e) : ℝ) : EReal) := by
  pointwise [A_main_v3, A_main_v2]
  rw [A_main_v1_real hx hv]
  simp only [col, Nat.mul_comm g.val 64]

include hW

/-- After `n` trips of the loop the state holds the rows of stage `n`, and the values and the weights as they were. -/
theorem iter_real (it : ℕ → State Ideal) (h0 : it 0 = init x2 x0 x1) (hs : ∀ n, it (n + 1) = step n (it n)) : ∀ n, n ≤ 12 →
    (∀ r d, (it n).main_v5_5 (ix3 0 r d) = ((mixes W (proj wv 0 x) n r.val d : ℝ) : EReal))
    ∧ (∀ n' o i, (it n).main_v5_0 (ix3 n' o i) = ((W n'.val o.val i : ℝ) : EReal))
    ∧ (∀ g r e, (it n).main_v5_2 (ix4 0 g r e) = ((proj wv 0 x r.val (col g e) : ℝ) : EReal))
  | 0, _ => by
    rw [h0]
    exact ⟨A_main_v1_real hx hv, hW, A_main_v3_real hx hv⟩
  | n + 1, hn => by
    obtain ⟨hh, hw, hv'⟩ := iter_real it h0 hs n (by omega)
    rw [hs n]
    exact ⟨b88_real n (by omega) (it n) hw hh hv', hw, hv'⟩

end

end Cert.ReferenceIdeal.Hand

end
-- ==== Proof.Finite.lean ====
/-
  What the precondition says of the arguments over the extended reals: every entry is a real number.
-/
module

public import proofs.«01_k».proof.Pre_finite
public import proofs.«01_k».proof.Proof.Model
public import Idealize.ShloMosaic.Lib.ReduceAll
public import Idealize.ShloMosaic.Lib.ValueIdxCore
public import Idealize.ShloMosaic.Lib.Tactic

@[expose] public section

noncomputable section

namespace Cert.Pre_finite.Hand

open Cert.Pre_finite Idealize.ShloMosaic

/-- The side conditions of the precondition's operations. -/
theorem facts : Cert.Pre_finite.Facts where
  bcast_S_S1x4096x768 := by decide
  reducesTo_S1x4096x768_S_d0_1_2 := by decide
  h_S_ := by decide
  bcast_S_S768x768 := by decide
  reducesTo_S768x768_S_d0_1 := by decide
  bcast_S_S12x1536x768 := by decide
  reducesTo_S12x1536x768_S_d0_1_2 := by decide

instance : Cert.Pre_finite.Facts := facts

instance : Subsingleton S_.Idx := ⟨fun a b => funext fun i => i.elim0⟩

/-- An extended real whose absolute value compares below infinity is a real number. -/
theorem real_of_lt (x : Ideal .f32)
    (h : FloatOps.cmpf (F := Ideal) .olt (FloatOps.hostAbsf x) (FloatOps.ofBits .f32 0x7F800000#32) = 1#1) :
    x = ((EReal.toReal x : ℝ) : EReal) := by
  have ht : Ideal.ofBits .f32 0x7F800000#32 = (⊤ : EReal) := by simp [Ideal.ofBits, Ideal.ieee]
  refine (EReal.coe_toReal ?_ ?_).symm
  · rintro rfl
    simp [FloatOps.cmpf, FloatOps.hostAbsf, FloatOps.ofBits, Ideal.cmp, ht] at h
  · rintro rfl
    simp [FloatOps.cmpf, FloatOps.hostAbsf, FloatOps.ofBits, Ideal.cmp, ht] at h

/-- The precondition gives a real number at every entry of every argument. -/
theorem real_of_fn (x0 : FVec Ideal S1x4096x768 .f32) (x1 : FVec Ideal S768x768 .f32) (x2 : FVec Ideal S12x1536x768 .f32)
    (h : Cert.Pre_finite.fn (F := Ideal) x0 x1 x2 = fun _ => 1#1) :
    (∀ i, x0 i = ((EReal.toReal (x0 i) : ℝ) : EReal)) ∧ (∀ i, x1 i = ((EReal.toReal (x1 i) : ℝ) : EReal))
      ∧ ∀ i, x2 i = ((EReal.toReal (x2 i) : ℝ) : EReal) := by
  have h' := congrFun h (fun i => i.elim0)
  unfold Cert.Pre_finite.fn at h'
  obtain ⟨h01, h2⟩ := IntOp.andi_eq_one.1 h'
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Pre_finite.Hand

end
-- ==== Proof.Algebraic.lean ====
/-
  The kernel over the extended reals and the reference return the same array, on arguments whose entries are real numbers.
-/
module

public import proofs.«01_k».proof.Defs
public import proofs.«01_k».proof.Proof.Gen.KernelIdeal
public import proofs.«01_k».proof.Proof.Gen.ReferenceIdeal
public import proofs.«01_k».proof.Proof.Gen.ReferenceIdeal.StepRun
public import proofs.«01_k».proof.Proof.ValueWhole
public import proofs.«01_k».proof.Proof.ValueRef
public import proofs.«01_k».proof.Proof.Finite

@[expose] public section

noncomputable section

namespace Cert.Proof

open Idealize.ShloMosaic Idealize.SL.Sem Cert.Math

/-- The real numbers of a matrix of extended reals, by row number. -/
def rows2 (x : FVec Ideal ⟨2, ![768, 768]⟩ .f32) : Rows := fun r j => EReal.toReal (x (ix2 (Fin.ofNat 768 r) j))

/-- The real numbers of the one batch of the input, by row number. -/
def rows1 (x : FVec Ideal ⟨3, ![1, 4096, 768]⟩ .f32) : Rows := fun r j => EReal.toReal (x (ix3 0 (Fin.ofNat 4096 r) j))

/-- The real numbers of the stages' weights, by stage and row number. -/
def rows3 (x : FVec Ideal ⟨3, ![12, 1536, 768]⟩ .f32) : ℕ → Rows := fun n r j =>
  EReal.toReal (x (ix3 (Fin.ofNat 12 n) (Fin.ofNat 1536 r) j))

/-- A number below the bound, read back, is itself. -/
theorem ofNat_val {n : ℕ} [NeZero n] (i : Fin n) : Fin.ofNat n i.val = i := Fin.ext (Nat.mod_eq_of_lt i.isLt)

/-- The array both programs return, of the three arguments. -/
def answer (x0 : FVec Ideal ⟨3, ![1, 4096, 768]⟩ .f32) (x1 : FVec Ideal ⟨2, ![768, 768]⟩ .f32) (x2 : FVec Ideal ⟨3, ![12, 1536, 768]⟩ .f32) :
    FVec Ideal ⟨3, ![1, 4096, 768]⟩ .f32 := fun i =>
  ((mixes (rows3 x2) (proj (rows2 x1) 0 (rows1 x0)) 12 (i 1).val (i 2) : ℝ) : EReal)

/-- An array that agrees with the answer at every row and column is the answer. -/
theorem eq_answer {x0 x1 x2} {y : FVec Ideal ⟨3, ![1, 4096, 768]⟩ .f32}
    (h : ∀ (r : Fin 4096) (d : Fin 768), y (ix3 0 r d) = ((mixes (rows3 x2) (proj (rows2 x1) 0 (rows1 x0)) 12 r.val d : ℝ) : EReal)) :
    y = answer x0 x1 x2 := by
  funext i
  have hi : i = ix3 0 (i 1) (i 2) := by
    funext a
    match a with
    | 0 => exact Subsingleton.elim (α := Fin 1) _ _
    | 1 => rfl
    | 2 => rfl
  rw [hi]
  exact h _ _

/-- Over the extended reals, on arguments whose entries are real numbers, the kernel and the reference end with one and the same result. -/
theorem algebraic : Cert.algebraic_KernelIdeal_ReferenceIdeal_pre_finite := by
  intro m g m' g' hpre hargs
  refine ⟨fun c => answer (m (c.tc.loc Cert.KernelIdeal.main_arg0)) (m (c.tc.loc Cert.KernelIdeal.main_arg1)) (m (c.tc.loc Cert.KernelIdeal.main_arg2)), ?_, ?_⟩
  · refine (θ_run Cert.KernelIdeal.defs _ _).mono (fun r h c => ⟨?_, ?_, ?_, ?_⟩) (Cert.KernelIdeal.Hand.run_all m g)
    · refine (h.1 c _ (Cert.KernelIdeal.Hand.mem_uc (r := Cert.KernelIdeal.main_v6) rfl)).trans ?_
      obtain ⟨f0, f1, f2⟩ := Cert.Pre_finite.Hand.real_of_fn _ _ _ (hpre c)
      refine eq_answer fun r d => Cert.KernelIdeal.Hand.result_real m c (fun r j => ?_) (fun r j => ?_) (fun n r j => ?_) r d
      · unfold rows1; rw [ofNat_val]; exact f0 _
      · unfold rows2; rw [ofNat_val]; exact f1 _
      · unfold rows3; rw [ofNat_val, ofNat_val]; exact f2 _
    · exact (h.1 c _ (Cert.KernelIdeal.Hand.mem_uc (r := Cert.KernelIdeal.main_arg0) rfl)).trans
        (Cert.KernelIdeal.Gen.V5_main_arg0 m (Cert.KernelIdeal.Hand.outs m) c)
    · exact (h.1 c _ (Cert.KernelIdeal.Hand.mem_uc (r := Cert.KernelIdeal.main_arg1) rfl)).trans
        (Cert.KernelIdeal.Gen.V5_main_arg1 m (Cert.KernelIdeal.Hand.outs m) c)
    · exact (h.1 c _ (Cert.KernelIdeal.Hand.mem_uc (r := Cert.KernelIdeal.main_arg2) rfl)).trans
        (Cert.KernelIdeal.Gen.V5_main_arg2 m (Cert.KernelIdeal.Hand.outs m) c)
  · let it : Dev Cert.ReferenceIdeal.nD → ℕ → Cert.ReferenceIdeal.Step.State Ideal := fun c n =>
      Nat.rec (Cert.ReferenceIdeal.StepRun.initState m' c) (fun n s => Cert.ReferenceIdeal.Step.step n s) n
    refine (θ_run Cert.ReferenceIdeal.defs _ _).mono (fun r h c => ⟨(h c).1.trans ?_, (h c).2⟩)
      (Cert.ReferenceIdeal.StepRun.run_iter m' g' it (fun _ => rfl) (fun _ _ => rfl))
    obtain ⟨f0, f1, f2⟩ := Cert.Pre_finite.Hand.real_of_fn _ _ _ (hpre c)
    obtain ⟨e0, e1, e2⟩ := hargs c
    refine eq_answer (Cert.ReferenceIdeal.Hand.iter_real (fun r j => ?_) (fun r j => ?_) (fun n r j => ?_) (it c) rfl (fun _ => rfl) 12 le_rfl).1
    · rw [e0]; unfold rows1; rw [ofNat_val]; exact f0 _
    · rw [e1]; unfold rows2; rw [ofNat_val]; exact f1 _
    · rw [e2]; unfold rows3; rw [ofNat_val, ofNat_val]; exact f2 _

end Cert.Proof

end
-- ==== Proof.lean ====
/-
  The proof of `Cert.Claim`: the frames of the two programs and of the reference, and that kernel and reference return the same array.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Step
public import proofs.«01_k».proof.Proof.Gen.ReferenceIdeal.StepRun
public import proofs.«01_k».proof.Proof.Gen.ReferenceIdeal.Run
public import proofs.«01_k».proof.Proof.Whole
public import proofs.«01_k».proof.Proof.IdealWhole
public import proofs.«01_k».proof.Proof.Algebraic
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m g _ => Cert.Kernel.Hand.frame m g

/-- The frame of the kernel over the extended reals. -/
theorem frame_pi : Cert.quiescent_KernelIdeal := fun m g _ => Cert.KernelIdeal.Hand.frame m g

/-- The reference's frame: its run keeps the arguments, and it has no semaphore. -/
theorem frame_ri : Cert.quiescent_ReferenceIdeal := by
  intro m g _
  exact (θ_run Cert.ReferenceIdeal.defs _ _).mono (fun r h => ⟨fun c => ⟨(h c).2.1, (h c).2.2.1, (h c).2.2.2⟩,
      Idealize.ShloMosaic.sem_eq_zero_of_no_sems (by decide) r.2⟩)
    (Cert.ReferenceIdeal.Value.run (F := Ideal) m g)

/-- Everything that is claimed. A precondition only narrows a frame, so the frames without one serve for both. -/
theorem claim : Cert.Claim := ⟨Cert.Kernel.Gen.facts, Cert.KernelIdeal.Gen.facts, Cert.ReferenceIdeal.Gen.facts, Cert.Pre_finite.Hand.facts,
  frame_p, frame_pi, fun m g _ => frame_pi m g trivial, frame_ri, fun m g _ => frame_ri m g trivial, trivial, algebraic⟩

end Cert.Proof

end
